-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_route_ok [hPre_route_ok : Cert.Pre_route_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_route_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_route_ok [hPre_route_ok : Cert.Pre_route_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_route_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_route_ok [hKernel2Ideal : Cert.Kernel2Ideal.Facts] [hPre_route_ok : Cert.Pre_route_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_route_ok m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_route_ok [hReference2Ideal : Cert.Reference2Ideal.Facts] [hPre_route_ok : Cert.Pre_route_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_route_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel2_Kernel2Ideal : Prop :=
  True

def algebraic_Kernel2Ideal_Reference2Ideal_pre_route_ok [hKernel2Ideal : Cert.Kernel2Ideal.Facts] [hReference2Ideal : Cert.Reference2Ideal.Facts] [hPre_route_ok : Cert.Pre_route_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_route_ok m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v52)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v52) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v107) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hPre_qk_finite : Cert.Pre_qk_finite.Facts) (hPre_route_ok : Cert.Pre_route_ok.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Kernel2Ideal_pre_route_ok (hKernel2Ideal := hKernel2Ideal) (hPre_route_ok := hPre_route_ok)
    ∧ quiescent_Reference2Ideal (hReference2Ideal := hReference2Ideal)
    ∧ quiescent_Reference2Ideal_pre_route_ok (hReference2Ideal := hReference2Ideal) (hPre_route_ok := hPre_route_ok)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal_pre_route_ok (hKernel2Ideal := hKernel2Ideal) (hReference2Ideal := hReference2Ideal) (hPre_route_ok := hPre_route_ok)
-- ==== Pre_qk_finite.lean ====
abbrev S16x2304x8x96 : Shape := ⟨4, ![16, 2304, 8, 96]⟩
abbrev S16x2304x8x64 : Shape := ⟨4, ![16, 2304, 8, 64]⟩
abbrev S_ : Shape := ⟨0, ![]⟩

class Facts : Prop where
  bcast_S_S16x2304x8x96 : S_.BroadcastsInDim S16x2304x8x96 (![] : Fin 0 → Fin S16x2304x8x96.rank)
  reducesTo_S16x2304x8x96_S_d0_1_2_3 : S16x2304x8x96.ReducesTo [0, 1, 2, 3] S_
  h_S_ : 0 < S_.numel

variable [Facts]

def fn {F : FTy → Type} [FloatOps F] (main_arg0 : FVec F S16x2304x8x96 .f32) (main_arg1 : FVec F S16x2304x8x96 .f32) (main_arg2 : FVec F S16x2304x8x64 .f32) : IVec S_ 1 :=
  let main_v0 : FVec F S16x2304x8x96 .f32 := Host.absf main_arg0
  let main_cst : FVec F S_ .f32 := constant S_ .f32 0x7F800000#32
  let main_v1 : FVec F S16x2304x8x96 .f32 := broadcastInDim S16x2304x8x96 ![] bcast_S_S16x2304x8x96 main_cst
  let main_v2 : IVec S16x2304x8x96 1 := cmpf .olt main_v0 main_v1
  let main_c : IVec S_ 1 := constantI S_ 1 1#1
  let main_v3 : IVec S_ 1 := (fun x v => Host.reduce IntOp.andi x v reducesTo_S16x2304x8x96_S_d0_1_2_3 h_S_) main_v2 main_c
  let main_v4 : FVec F S16x2304x8x96 .f32 := Host.absf main_arg1
  let main_cst_0 : FVec F S_ .f32 := constant S_ .f32 0x7F800000#32
  let main_v5 : FVec F S16x2304x8x96 .f32 := broadcastInDim S16x2304x8x96 ![] bcast_S_S16x2304x8x96 main_cst_0
  let main_v6 : IVec S16x2304x8x96 1 := cmpf .olt main_v4 main_v5
  let main_c_1 : IVec S_ 1 := constantI S_ 1 1#1
  let main_v7 : IVec S_ 1 := (fun x v => Host.reduce IntOp.andi x v reducesTo_S16x2304x8x96_S_d0_1_2_3 h_S_) main_v6 main_c_1
  let main_v8 : IVec S_ 1 := andi main_v3 main_v7
  main_v8
-- ==== Pre_route_ok.lean ====
abbrev S24 : Shape := ⟨1, ![24]⟩
abbrev S43008x1152 : Shape := ⟨2, ![43008, 1152]⟩
abbrev S16x1024x512 : Shape := ⟨3, ![16, 1024, 512]⟩
abbrev S16x512x1024 : Shape := ⟨3, ![16, 512, 1024]⟩
abbrev S43008x2 : Shape := ⟨2, ![43008, 2]⟩
abbrev S_ : Shape := ⟨0, ![]⟩

class Facts : Prop where
  slices_S43008x1152_S43008x2_0_1024 : S43008x1152.Slices ![0, 1024] S43008x2
  bcast_S_S43008x2 : S_.BroadcastsInDim S43008x2 (![] : Fin 0 → Fin S43008x2.rank)
  reducesTo_S43008x2_S_d0_1 : S43008x2.ReducesTo [0, 1] S_
  h_S_ : 0 < S_.numel

variable [Facts]

def fn {F : FTy → Type} [FloatOps F] (main_arg0 : IVec S24 32) (main_arg1 : FVec F S43008x1152 .f32) (main_arg2 : FVec F S16x1024x512 .f32) (main_arg3 : FVec F S16x1024x512 .f32) (main_arg4 : FVec F S16x512x1024 .f32) : IVec S_ 1 :=
  let main_v0 : FVec F S43008x2 .f32 := (extractStridedSlice S43008x2 ![0, 1024] · slices_S43008x1152_S43008x2_0_1024) main_arg1
  let main_cst : FVec F S_ .f32 := constant S_ .f32 0x00000000#32
  let main_v1 : FVec F S43008x2 .f32 := broadcastInDim S43008x2 ![] bcast_S_S43008x2 main_cst
  let main_v2 : IVec S43008x2 1 := cmpf .oge main_v0 main_v1
  let main_c : IVec S_ 1 := constantI S_ 1 1#1
  let main_v3 : IVec S_ 1 := (fun x v => Host.reduce IntOp.andi x v reducesTo_S43008x2_S_d0_1 h_S_) main_v2 main_c
  let main_cst_0 : FVec F S_ .f32 := constant S_ .f32 0x7F800000#32
  let main_v4 : FVec F S43008x2 .f32 := broadcastInDim S43008x2 ![] bcast_S_S43008x2 main_cst_0
  let main_v5 : IVec S43008x2 1 := cmpf .olt main_v0 main_v4
  let main_c_1 : IVec S_ 1 := constantI S_ 1 1#1
  let main_v6 : IVec S_ 1 := (fun x v => Host.reduce IntOp.andi x v reducesTo_S43008x2_S_d0_1 h_S_) main_v5 main_c_1
  let main_v7 : IVec S_ 1 := andi main_v3 main_v6
  main_v7
-- ==== Kernel.lean ====
abbrev S16x2304x8x96 : Shape := ⟨4, ![16, 2304, 8, 96]⟩
abbrev S16x2304x8x64 : Shape := ⟨4, ![16, 2304, 8, 64]⟩
abbrev S_ : Shape := ⟨0, ![]⟩
abbrev S16x2304x8x128 : Shape := ⟨4, ![16, 2304, 8, 128]⟩
abbrev S16x2304x1024 : Shape := ⟨3, ![16, 2304, 1024]⟩
abbrev S16x2304x512 : Shape := ⟨3, ![16, 2304, 512]⟩
abbrev S16x2048x512 : Shape := ⟨3, ![16, 2048, 512]⟩
abbrev S1x256x256 : Shape := ⟨3, ![1, 256, 256]⟩
abbrev S1x2304x256 : Shape := ⟨3, ![1, 2304, 256]⟩
abbrev S1x2304x128 : Shape := ⟨3, ![1, 2304, 128]⟩
abbrev S1x1024x128 : Shape := ⟨3, ![1, 1024, 128]⟩
abbrev S1x128 : Shape := ⟨2, ![1, 128]⟩
abbrev S1x256x128 : Shape := ⟨3, ![1, 256, 128]⟩
abbrev S256x128 : Shape := ⟨2, ![256, 128]⟩
abbrev S1024x128 : Shape := ⟨2, ![1024, 128]⟩
abbrev S2304x128 : Shape := ⟨2, ![2304, 128]⟩
abbrev S1024x2304 : Shape := ⟨2, ![1024, 2304]⟩
abbrev S1024 : Shape := ⟨1, ![1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S16x2304x8x96, .f32⟩
  | .hbm, ⟨1, _⟩ => ⟨S16x2304x8x96, .f32⟩
  | .hbm, ⟨2, _⟩ => ⟨S16x2304x8x64, .f32⟩
  | .hbm, ⟨3, _⟩ => ⟨S_, .i32⟩
  | .hbm, ⟨4, _⟩ => ⟨S_, .f32⟩
  | .hbm, ⟨5, _⟩ => ⟨S16x2304x8x128, .f32⟩
  | .hbm, ⟨6, _⟩ => ⟨S16x2304x1024, .f32⟩
  | .hbm, ⟨7, _⟩ => ⟨S_, .i32⟩
  | .hbm, ⟨8, _⟩ => ⟨S_, .f32⟩
  | .hbm, ⟨9, _⟩ => ⟨S16x2304x8x128, .f32⟩
  | .hbm, ⟨10, _⟩ => ⟨S16x2304x1024, .f32⟩
  | .hbm, ⟨11, _⟩ => ⟨S16x2304x1024, .bf16⟩
  | .hbm, ⟨12, _⟩ => ⟨S_, .i32⟩
  | .hbm, ⟨13, _⟩ => ⟨S_, .f32⟩
  | .hbm, ⟨14, _⟩ => ⟨S16x2304x8x64, .f32⟩
  | .hbm, ⟨15, _⟩ => ⟨S16x2304x512, .f32⟩
  | .hbm, ⟨16, _⟩ => ⟨S16x2304x512, .bf16⟩
  | .hbm, ⟨17, _⟩ => ⟨S16x2048x512, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x2304x256, .bf16⟩
  | .local _ .vmem, ⟨9, _⟩ => ⟨S1x2304x256, .bf16⟩
  | .local _ .vmem, ⟨10, _⟩ => ⟨S1x2304x128, .bf16⟩
  | .local _ .vmem, ⟨11, _⟩ => ⟨S1x2304x128, .bf16⟩
  | .local _ .vmem, ⟨12, _⟩ => ⟨S1x1024x128, .bf16⟩
  | .local _ .vmem, ⟨13, _⟩ => ⟨S1x1024x128, .bf16⟩
  | _, _ => ⟨S16x2304x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  ![arg0.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c2_i32 : BitVec 32 := 2#32
  let v2 : BitVec 32 := Scalar.addi v1 c2_i32
  let c0_i32 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c3_i32 : BitVec 32 := 3#32
  let v2 : BitVec 32 := Scalar.addi v1 c3_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S16x2304x8x96 : Shape := ⟨4, ![16, 2304, 8, 96]⟩
abbrev S16x2304x8x64 : Shape := ⟨4, ![16, 2304, 8, 64]⟩
abbrev S16x2048x8x96 : Shape := ⟨4, ![16, 2048, 8, 96]⟩
abbrev S16x8x2048x2304 : Shape := ⟨4, ![16, 8, 2048, 2304]⟩
abbrev S_ : Shape := ⟨0, ![]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x8x64 : Shape := ⟨4, ![16, 2048, 8, 64]⟩
abbrev S16x2048x512 : Shape := ⟨3, ![16, 2048, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x2304x8x96, .f32⟩
  | .hbm, ⟨1, _⟩ => ⟨S16x2304x8x96, .f32⟩
  | .hbm, ⟨2, _⟩ => ⟨S16x2304x8x64, .f32⟩
  | .hbm, ⟨3, _⟩ => ⟨S16x2048x8x96, .f32⟩
  | .hbm, ⟨4, _⟩ => ⟨S16x8x2048x2304, .f32⟩
  | .hbm, ⟨5, _⟩ => ⟨S_, .f32⟩
  | .hbm, ⟨6, _⟩ => ⟨S_, .f32⟩
  | .hbm, ⟨7, _⟩ => ⟨S16x8x2048x2304, .f32⟩
  | .hbm, ⟨8, _⟩ => ⟨S16x8x2048x2304, .f32⟩
  | .hbm, ⟨9, _⟩ => ⟨S_, .f32⟩
  | .hbm, ⟨10, _⟩ => ⟨S16x8x2048, .f32⟩
  | .hbm, ⟨11, _⟩ => ⟨S_, .f32⟩
  | .hbm, ⟨12, _⟩ => ⟨S16x8x2048, .f32⟩
  | .hbm, ⟨13, _⟩ => ⟨S16x8x2048, .f32⟩
  | .hbm, ⟨14, _⟩ => ⟨S16x8x2048x1, .f32⟩
  | .hbm, ⟨15, _⟩ => ⟨S16x8x2048x2304, .f32⟩
  | .hbm, ⟨16, _⟩ => ⟨S16x8x2048x2304, .f32⟩
  | .hbm, ⟨17, _⟩ => ⟨S16x8x2048x2304, .f32⟩
  | .hbm, ⟨18, _⟩ => ⟨S_, .f32⟩
  | .hbm, ⟨19, _⟩ => ⟨S16x8x2048, .f32⟩
  | .hbm, ⟨20, _⟩ => ⟨S16x8x2048x1, .f32⟩
  | .hbm, ⟨21, _⟩ => ⟨S16x8x2048x2304, .f32⟩
  | .hbm, ⟨22, _⟩ => ⟨S16x8x2048x2304, .f32⟩
  | .hbm, ⟨23, _⟩ => ⟨S16x8x64x2048, .f32⟩
  | .hbm, ⟨24, _⟩ => ⟨S16x2048x8x64, .f32⟩
  | .hbm, ⟨25, _⟩ => ⟨S16x2048x512, .f32⟩
  | .hbm, ⟨26, _⟩ => ⟨S16x2048x512, .bf16⟩
  | _, _ => ⟨S16x2304x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x2336 : Shape := ⟨2, ![1024, 2336]⟩
abbrev S16x2304x1024 : Shape := ⟨3, ![16, 2304, 1024]⟩
abbrev S_ : Shape := ⟨0, ![]⟩
abbrev S1024x2432 : Shape := ⟨2, ![1024, 2432]⟩
abbrev S1x1024 : Shape := ⟨2, ![1, 1024]⟩
abbrev S16x1x1024 : Shape := ⟨3, ![16, 1, 1024]⟩
abbrev S16x2x1024 : Shape := ⟨3, ![16, 2, 1024]⟩
abbrev S16x2x1x1024 : Shape := ⟨4, ![16, 2, 1, 1024]⟩
abbrev S16x2304x1920 : Shape := ⟨3, ![16, 2304, 1920]⟩
abbrev S16x2304x512 : Shape := ⟨3, ![16, 2304, 512]⟩
abbrev S1x256x1024 : Shape := ⟨3, ![1, 256, 1024]⟩
abbrev S1x1x1x1024 : Shape := ⟨4, ![1, 1, 1, 1024]⟩
abbrev S1x256x1920 : Shape := ⟨3, ![1, 256, 1920]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x2432 : Shape := ⟨2, ![256, 2432]⟩
abbrev S256x1920 : Shape := ⟨2, ![256, 1920]⟩
abbrev S256x512 : Shape := ⟨2, ![256, 512]⟩

abbrev nBuf : Space → Nat
  | .hbm => 37
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1024, .f32⟩
  | .hbm, ⟨7, _⟩ => ⟨S1024x2336, .f32⟩
  | .hbm, ⟨8, _⟩ => ⟨S16x2304x1024, .f32⟩
  | .hbm, ⟨9, _⟩ => ⟨S_, .i32⟩
  | .hbm, ⟨10, _⟩ => ⟨S_, .f32⟩
  | .hbm, ⟨11, _⟩ => ⟨S1024x2432, .f32⟩
  | .hbm, ⟨12, _⟩ => ⟨S1024x2432, .bf16⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S1x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S16x1024, .f32⟩
  | .hbm, ⟨25, _⟩ => ⟨S16x1x1024, .f32⟩
  | .hbm, ⟨26, _⟩ => ⟨S16x1x1024, .f32⟩
  | .hbm, ⟨27, _⟩ => ⟨S16x2x1024, .f32⟩
  | .hbm, ⟨28, _⟩ => ⟨S16x2x1x1024, .f32⟩
  | .hbm, ⟨29, _⟩ => ⟨S1x1024, .f32⟩
  | .hbm, ⟨30, _⟩ => ⟨S16x1024, .f32⟩
  | .hbm, ⟨31, _⟩ => ⟨S16x1x1024, .f32⟩
  | .hbm, ⟨32, _⟩ => ⟨S16x1x1024, .f32⟩
  | .hbm, ⟨33, _⟩ => ⟨S16x2x1024, .f32⟩
  | .hbm, ⟨34, _⟩ => ⟨S16x2x1x1024, .f32⟩
  | .hbm, ⟨35, _⟩ => ⟨S16x2304x1920, .f32⟩
  | .hbm, ⟨36, _⟩ => ⟨S16x2304x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x2432, .bf16⟩
  | .local _ .vmem, ⟨7, _⟩ => ⟨S1x256x1920, .f32⟩
  | .local _ .vmem, ⟨8, _⟩ => ⟨S1x256x1920, .f32⟩
  | .local _ .vmem, ⟨9, _⟩ => ⟨S1x256x512, .f32⟩
  | .local _ .vmem, ⟨10, _⟩ => ⟨S1x256x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.minsi v17 c1_i32_6
  let c0_i32_7 : BitVec 32 := 0#32
  let c0_i32_8 : BitVec 32 := 0#32
  let c0_i32_9 : BitVec 32 := 0#32
  ![arg0.toNat, v18.toNat, c0_i32_7.toNat, c0_i32_8.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.minsi v17 c1_i32_6
  let c0_i32_7 : BitVec 32 := 0#32
  let c0_i32_8 : BitVec 32 := 0#32
  let c0_i32_9 : BitVec 32 := 0#32
  ![arg0.toNat, v18.toNat, c0_i32_7.toNat, c0_i32_8.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x2048x1024 : Shape := ⟨3, ![16, 2048, 1024]⟩
abbrev S16x256x1024 : Shape := ⟨3, ![16, 256, 1024]⟩
abbrev S1024 : Shape := ⟨1, ![1024]⟩
abbrev S16x1024 : Shape := ⟨2, ![16, 1024]⟩
abbrev S1024x2336 : Shape := ⟨2, ![1024, 2336]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S16x2048x2336 : Shape := ⟨3, ![16, 2048, 2336]⟩
abbrev S16x256x2336 : Shape := ⟨3, ![16, 256, 2336]⟩
abbrev S16x2304x2336 : Shape := ⟨3, ![16, 2304, 2336]⟩
abbrev S16x2304x1920 : Shape := ⟨3, ![16, 2304, 1920]⟩
abbrev S16x2304x416 : Shape := ⟨3, ![16, 2304, 416]⟩
abbrev S16x2304x512 : Shape := ⟨3, ![16, 2304, 512]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1024, .f32⟩
  | .hbm, ⟨7, _⟩ => ⟨S1024x2336, .f32⟩
  | .hbm, ⟨8, _⟩ => ⟨S16x1x1024, .f32⟩
  | .hbm, ⟨9, _⟩ => ⟨S16x1x1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x256x1024, .f32⟩
  | .hbm, ⟨34, _⟩ => ⟨S_, .f32⟩
  | .hbm, ⟨35, _⟩ => ⟨S16x256, .f32⟩
  | .hbm, ⟨36, _⟩ => ⟨S16x256x1, .f32⟩
  | .hbm, ⟨37, _⟩ => ⟨S_, .f32⟩
  | .hbm, ⟨38, _⟩ => ⟨S16x256x1, .f32⟩
  | .hbm, ⟨39, _⟩ => ⟨S16x256x1, .f32⟩
  | .hbm, ⟨40, _⟩ => ⟨S_, .f32⟩
  | .hbm, ⟨41, _⟩ => ⟨S16x256x1, .f32⟩
  | .hbm, ⟨42, _⟩ => ⟨S16x256x1, .f32⟩
  | .hbm, ⟨43, _⟩ => ⟨S16x256x1, .f32⟩
  | .hbm, ⟨44, _⟩ => ⟨S16x256x1024, .f32⟩
  | .hbm, ⟨45, _⟩ => ⟨S16x256x1024, .f32⟩
  | .hbm, ⟨46, _⟩ => ⟨S1x1x1024, .f32⟩
  | .hbm, ⟨47, _⟩ => ⟨S16x256x1024, .f32⟩
  | .hbm, ⟨48, _⟩ => ⟨S16x256x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1x1024, .f32⟩
  | .hbm, ⟨53, _⟩ => ⟨S16x256x1024, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S16x2048x2336, .f32⟩
  | .hbm, ⟨59, _⟩ => ⟨S16x256x2336, .f32⟩
  | .hbm, ⟨60, _⟩ => ⟨S16x2304x2336, .f32⟩
  | .hbm, ⟨61, _⟩ => ⟨S16x2304x1920, .f32⟩
  | .hbm, ⟨62, _⟩ => ⟨S16x2304x416, .f32⟩
  | .hbm, ⟨63, _⟩ => ⟨S_, .i32⟩
  | .hbm, ⟨64, _⟩ => ⟨S_, .f32⟩
  | .hbm, ⟨65, _⟩ => ⟨S16x2304x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_call0_v0 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel2.lean ====
abbrev S24 : Shape := ⟨1, ![24]⟩
abbrev S43008x1152 : Shape := ⟨2, ![43008, 1152]⟩
abbrev S16x1024x512 : Shape := ⟨3, ![16, 1024, 512]⟩
abbrev S16x512x1024 : Shape := ⟨3, ![16, 512, 1024]⟩
abbrev S6 : Shape := ⟨1, ![6]⟩
abbrev S_ : Shape := ⟨0, ![]⟩
abbrev S168 : Shape := ⟨1, ![168]⟩
abbrev S168x1 : Shape := ⟨2, ![168, 1]⟩
abbrev S1x24 : Shape := ⟨2, ![1, 24]⟩
abbrev S168x24 : Shape := ⟨2, ![168, 24]⟩
abbrev S1 : Shape := ⟨1, ![1]⟩
abbrev S43008x1024 : Shape := ⟨2, ![43008, 1024]⟩
abbrev S256x1152 : Shape := ⟨2, ![256, 1152]⟩
abbrev S1x1024x512 : Shape := ⟨3, ![1, 1024, 512]⟩
abbrev S1x512x1024 : Shape := ⟨3, ![1, 512, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 164
  | .vmem => 16
  | .smem => 3
  | _ => 0

abbrev hbmTy0_0 (i : Nat) : BufTy := match i % 128 with
  | 0 => ⟨S24, .i32⟩
  | 1 => ⟨S43008x1152, .f32⟩
  | 2 => ⟨S16x1024x512, .f32⟩
  | 3 => ⟨S16x1024x512, .f32⟩
  | 4 => ⟨S16x512x1024, .f32⟩
  | 5 => ⟨S6, .i32⟩
  | 6 => ⟨S6, .i32⟩
  | 7 => ⟨S_, .i32⟩
  | 8 => ⟨S24, .i32⟩
  | 9 => ⟨S24, .i32⟩
  | 10 => ⟨S_, .i32⟩
  | 11 => ⟨S24, .i32⟩
  | 12 => ⟨S24, .i32⟩
  | 13 => ⟨S_, .i32⟩
  | 14 => ⟨S_, .i32⟩
  | 15 => ⟨S24, .i32⟩
  | 16 => ⟨S24, .i32⟩
  | 17 => ⟨S24, .i32⟩
  | 18 => ⟨S_, .i32⟩
  | 19 => ⟨S24, .i32⟩
  | 20 => ⟨S24, .i1⟩
  | 21 => ⟨S24, .i32⟩
  | 22 => ⟨S24, .i32⟩
  | 23 => ⟨S_, .i32⟩
  | 24 => ⟨S24, .i32⟩
  | 25 => ⟨S24, .i1⟩
  | 26 => ⟨S24, .i1⟩
  | 27 => ⟨S_, .i32⟩
  | 28 => ⟨S24, .i32⟩
  | 29 => ⟨S24, .i32⟩
  | 30 => ⟨S24, .i32⟩
  | 31 => ⟨S_, .i32⟩
  | 32 => ⟨S24, .i32⟩
  | 33 => ⟨S24, .i32⟩
  | 34 => ⟨S_, .i32⟩
  | 35 => ⟨S_, .i32⟩
  | 36 => ⟨S24, .i32⟩
  | 37 => ⟨S168, .i32⟩
  | 38 => ⟨S_, .i32⟩
  | 39 => ⟨S168, .i32⟩
  | 40 => ⟨S168, .i32⟩
  | 41 => ⟨S168x1, .i32⟩
  | 42 => ⟨S1x24, .i32⟩
  | 43 => ⟨S168x24, .i32⟩
  | 44 => ⟨S168x24, .i32⟩
  | 45 => ⟨S168x24, .i1⟩
  | 46 => ⟨S168x24, .i32⟩
  | 47 => ⟨S_, .i32⟩
  | 48 => ⟨S168, .i32⟩
  | 49 => ⟨S_, .i32⟩
  | 50 => ⟨S168, .i32⟩
  | 51 => ⟨S168, .i32⟩
  | 52 => ⟨S1, .i32⟩
  | 53 => ⟨S_, .i32⟩
  | 54 => ⟨S168, .i32⟩
  | 55 => ⟨S168, .i1⟩
  | 56 => ⟨S_, .i32⟩
  | 57 => ⟨S_, .i32⟩
  | 58 => ⟨S168, .i32⟩
  | 59 => ⟨S168, .i32⟩
  | 60 => ⟨S168, .i32⟩
  | 61 => ⟨S_, .i32⟩
  | 62 => ⟨S168, .i32⟩
  | 63 => ⟨S168, .i1⟩
  | 64 => ⟨S168, .i32⟩
  | 65 => ⟨S168, .i32⟩
  | 66 => ⟨S_, .i32⟩
  | 67 => ⟨S168, .i32⟩
  | 68 => ⟨S168, .i1⟩
  | 69 => ⟨S168, .i1⟩
  | 70 => ⟨S_, .i32⟩
  | 71 => ⟨S168, .i32⟩
  | 72 => ⟨S168, .i32⟩
  | 73 => ⟨S168, .i32⟩
  | 74 => ⟨S_, .i32⟩
  | 75 => ⟨S168, .i32⟩
  | 76 => ⟨S168, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S168, .i32⟩
  | 84 => ⟨S168, .i32⟩
  | 85 => ⟨S_, .i32⟩
  | 86 => ⟨S168, .i32⟩
  | 87 => ⟨S168, .i1⟩
  | 88 => ⟨S_, .i32⟩
  | 89 => ⟨S168, .i32⟩
  | 90 => ⟨S168, .i1⟩
  | 91 => ⟨S_, .i32⟩
  | 92 => ⟨S_, .i1⟩
  | 93 => ⟨S168, .i1⟩
  | 94 => ⟨S168, .i1⟩
  | 95 => ⟨S168, .i1⟩
  | 96 => ⟨S168, .i32⟩
  | 97 => ⟨S168, .i32⟩
  | 98 => ⟨S168, .i32⟩
  | 99 => ⟨S_, .i32⟩
  | 100 => ⟨S168, .i32⟩
  | 101 => ⟨S168, .i1⟩
  | 102 => ⟨S_, .i32⟩
  | 103 => ⟨S168, .i32⟩
  | 104 => ⟨S168, .i32⟩
  | 105 => ⟨S168, .i32⟩
  | 106 => ⟨S168x1, .i32⟩
  | 107 => ⟨S168, .i32⟩
  | 108 => ⟨S_, .i32⟩
  | 109 => ⟨S_, .i32⟩
  | 110 => ⟨S168, .i32⟩
  | 111 => ⟨S168, .i32⟩
  | 112 => ⟨S168, .i32⟩
  | 113 => ⟨S_, .i32⟩
  | 114 => ⟨S168, .i32⟩
  | 115 => ⟨S168, .i1⟩
  | 116 => ⟨S168, .i32⟩
  | 117 => ⟨S168, .i32⟩
  | 118 => ⟨S_, .i32⟩
  | 119 => ⟨S168, .i32⟩
  | 120 => ⟨S168, .i1⟩
  | 121 => ⟨S168, .i1⟩
  | 122 => ⟨S_, .i32⟩
  | 123 => ⟨S168, .i32⟩
  | 124 => ⟨S168, .i32⟩
  | 125 => ⟨S168, .i32⟩
  | 126 => ⟨S_, .i32⟩
  | 127 => ⟨S168, .i32⟩
  | _ => ⟨S24, .i32⟩

abbrev hbmTy0_1 (i : Nat) : BufTy := match i % 128 with
  | 0 => ⟨S168, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S168, .i32⟩
  | 8 => ⟨S168, .i32⟩
  | 9 => ⟨S_, .i32⟩
  | 10 => ⟨S168, .i32⟩
  | 11 => ⟨S168, .i1⟩
  | 12 => ⟨S_, .i32⟩
  | 13 => ⟨S168, .i32⟩
  | 14 => ⟨S168, .i1⟩
  | 15 => ⟨S_, .i32⟩
  | 16 => ⟨S_, .i1⟩
  | 17 => ⟨S168, .i1⟩
  | 18 => ⟨S168, .i1⟩
  | 19 => ⟨S168, .i1⟩
  | 20 => ⟨S168, .i32⟩
  | 21 => ⟨S168, .i32⟩
  | 22 => ⟨S168, .i32⟩
  | 23 => ⟨S_, .i32⟩
  | 24 => ⟨S168, .i32⟩
  | 25 => ⟨S168, .i1⟩
  | 26 => ⟨S_, .i32⟩
  | 27 => ⟨S168, .i32⟩
  | 28 => ⟨S168, .i32⟩
  | 29 => ⟨S168, .i32⟩
  | 30 => ⟨S168x1, .i32⟩
  | 31 => ⟨S168, .i32⟩
  | 32 => ⟨S16x1024x512, .bf16⟩
  | 33 => ⟨S16x1024x512, .bf16⟩
  | 34 => ⟨S16x512x1024, .bf16⟩
  | 35 => ⟨S43008x1024, .f32⟩
  | _ => ⟨S24, .i32⟩

abbrev hbmTy (i : Nat) : BufTy := match i / 128 with
  | 0 => hbmTy0_0 i
  | 1 => hbmTy0_1 i
  | _ => ⟨S24, .i32⟩

abbrev bufTy : (tb : Table) → Fin (tcTables nBuf tb) → BufTy
  | .hbm, ⟨i, _⟩ => hbmTy i
  | .local _ .vmem, ⟨0, _⟩ => ⟨S256x1152, .f32⟩
  | .local _ .vmem, ⟨1, _⟩ => ⟨S256x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x1024, .f32⟩
  | .local _ .vmem, ⟨15, _⟩ => ⟨S256x1024, .f32⟩
  | .local _ .smem, ⟨0, _⟩ => ⟨S168, .i32⟩
  | .local _ .smem, ⟨1, _⟩ => ⟨S168, .i32⟩
  | .local _ .smem, ⟨2, _⟩ => ⟨S168, .i32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_c_4 : Ref sig .tc := ⟨.hbm, 31, rfl⟩
abbrev main_v5 : Ref sig .tc := ⟨.hbm, 32, rfl⟩
abbrev main_v6 : Ref sig .tc := ⟨.hbm, 33, rfl⟩
abbrev main_call1_call0_c : Ref sig .tc := ⟨.hbm, 34, rfl⟩
abbrev main_call1_call0_v0 : Ref sig .tc := ⟨.hbm, 35, rfl⟩
abbrev main_v7 : Ref sig .tc := ⟨.hbm, 36, rfl⟩
abbrev main_v8 : Ref sig .tc := ⟨.hbm, 37, rfl⟩
abbrev main_c_5 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_6 : Ref sig .tc := ⟨.hbm, 47, rfl⟩
abbrev main_v17 : Ref sig .tc := ⟨.hbm, 48, rfl⟩
abbrev main_c_7 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_8 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v25 : Ref sig .tc := ⟨.hbm, 73, rfl⟩
abbrev main_c_9 : Ref sig .tc := ⟨.hbm, 74, rfl⟩
abbrev main_v26 : Ref sig .tc := ⟨.hbm, 75, rfl⟩
abbrev main_v27 : Ref sig .tc := ⟨.hbm, 76, rfl⟩
abbrev main_c_10 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v28 : Ref sig .tc := ⟨.hbm, 98, rfl⟩
abbrev main_c_11 : Ref sig .tc := ⟨.hbm, 99, rfl⟩
abbrev main_v29 : Ref sig .tc := ⟨.hbm, 100, rfl⟩
abbrev main_v30 : Ref sig .tc := ⟨.hbm, 101, rfl⟩
abbrev main_c_12 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_c_13 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_c : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_0 : Ref sig .tc := ⟨.hbm, 122, rfl⟩
abbrev main_call4_v12 : Ref sig .tc := ⟨.hbm, 123, rfl⟩
abbrev main_call4_v13 : Ref sig .tc := ⟨.hbm, 124, rfl⟩
abbrev main_v37 : Ref sig .tc := ⟨.hbm, 125, rfl⟩
abbrev main_c_14 : Ref sig .tc := ⟨.hbm, 126, rfl⟩
abbrev main_v38 : Ref sig .tc := ⟨.hbm, 127, rfl⟩
abbrev main_v39 : Ref sig .tc := ⟨.hbm, 128, rfl⟩
abbrev main_c_15 : Ref sig .tc := ⟨.hbm, 129, rfl⟩
abbrev main_call5_v0 : Ref sig .tc := ⟨.hbm, 130, rfl⟩
abbrev main_call5_c : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_c_1 : Ref sig .tc := ⟨.hbm, 137, rfl⟩
abbrev main_call5_v5 : Ref sig .tc := ⟨.hbm, 138, rfl⟩
abbrev main_call5_v6 : Ref sig .tc := ⟨.hbm, 139, rfl⟩
abbrev main_call5_c_2 : Ref sig .tc := ⟨.hbm, 140, rfl⟩
abbrev main_call5_v7 : Ref sig .tc := ⟨.hbm, 141, rfl⟩
abbrev main_call5_v8 : Ref sig .tc := ⟨.hbm, 142, rfl⟩
abbrev main_call5_c_3 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_v12 : Ref sig .tc := ⟨.hbm, 147, rfl⟩
abbrev main_call5_v13 : Ref sig .tc := ⟨.hbm, 148, rfl⟩
abbrev main_call5_v14 : Ref sig .tc := ⟨.hbm, 149, rfl⟩
abbrev main_v40 : Ref sig .tc := ⟨.hbm, 150, rfl⟩
abbrev main_c_16 : Ref sig .tc := ⟨.hbm, 151, rfl⟩
abbrev main_v41 : Ref sig .tc := ⟨.hbm, 152, rfl⟩
abbrev main_v42 : Ref sig .tc := ⟨.hbm, 153, rfl⟩
abbrev main_c_17 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v36 : Ref sig .tc := ⟨.smem, 0, rfl⟩
abbrev main_v48 : Ref sig .tc := ⟨.smem, 1, rfl⟩
abbrev main_v24 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![168], ![false]⟩

abbrev pre0 : Pipeline.Prefetch sig := ⟨3, ![main_v36.idx, main_v48.idx, main_v24.idx], fun | 0 => main_v36.names | 1 => main_v48.names | 2 => main_v24.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S24 : Shape := ⟨1, ![24]⟩
abbrev S43008x1152 : Shape := ⟨2, ![43008, 1152]⟩
abbrev S16x1024x512 : Shape := ⟨3, ![16, 1024, 512]⟩
abbrev S16x512x1024 : Shape := ⟨3, ![16, 512, 1024]⟩
abbrev S24x2 : Shape := ⟨2, ![24, 2]⟩
abbrev S_ : Shape := ⟨0, ![]⟩
abbrev S168 : Shape := ⟨1, ![168]⟩
abbrev S168x1 : Shape := ⟨2, ![168, 1]⟩
abbrev S1x24 : Shape := ⟨2, ![1, 24]⟩
abbrev S168x24 : Shape := ⟨2, ![168, 24]⟩
abbrev S168x2 : Shape := ⟨2, ![168, 2]⟩
abbrev S168x256x1152 : Shape := ⟨3, ![168, 256, 1152]⟩
abbrev S168x256x1024 : Shape := ⟨3, ![168, 256, 1024]⟩
abbrev S168x256x2 : Shape := ⟨3, ![168, 256, 2]⟩
abbrev S168x256x1 : Shape := ⟨3, ![168, 256, 1]⟩
abbrev S168x1024x512 : Shape := ⟨3, ![168, 1024, 512]⟩
abbrev S168x512x1024 : Shape := ⟨3, ![168, 512, 1024]⟩
abbrev S168x256x512 : Shape := ⟨3, ![168, 256, 512]⟩
abbrev S1 : Shape := ⟨1, ![1]⟩
abbrev S168x1x1 : Shape := ⟨3, ![168, 1, 1]⟩
abbrev S43008x1024 : Shape := ⟨2, ![43008, 1024]⟩

abbrev nBuf : Space → Nat
  | .hbm => 173
  | .vmem => 0
  | .smem => 0
  | _ => 0

abbrev hbmTy0_0 (i : Nat) : BufTy := match i % 128 with
  | 0 => ⟨S24, .i32⟩
  | 1 => ⟨S43008x1152, .f32⟩
  | 2 => ⟨S16x1024x512, .f32⟩
  | 3 => ⟨S16x1024x512, .f32⟩
  | 4 => ⟨S16x512x1024, .f32⟩
  | 5 => ⟨S24x2, .i32⟩
  | 6 => ⟨S_, .i32⟩
  | 7 => ⟨S24, .i32⟩
  | 8 => ⟨S24, .i32⟩
  | 9 => ⟨S_, .i32⟩
  | 10 => ⟨S24, .i32⟩
  | 11 => ⟨S24, .i32⟩
  | 12 => ⟨S_, .i32⟩
  | 13 => ⟨S_, .i32⟩
  | 14 => ⟨S24, .i32⟩
  | 15 => ⟨S24, .i32⟩
  | 16 => ⟨S24, .i32⟩
  | 17 => ⟨S_, .i32⟩
  | 18 => ⟨S24, .i32⟩
  | 19 => ⟨S24, .i1⟩
  | 20 => ⟨S24, .i32⟩
  | 21 => ⟨S24, .i32⟩
  | 22 => ⟨S_, .i32⟩
  | 23 => ⟨S24, .i32⟩
  | 24 => ⟨S24, .i1⟩
  | 25 => ⟨S24, .i1⟩
  | 26 => ⟨S_, .i32⟩
  | 27 => ⟨S24, .i32⟩
  | 28 => ⟨S24, .i32⟩
  | 29 => ⟨S24, .i32⟩
  | 30 => ⟨S_, .i32⟩
  | 31 => ⟨S24, .i32⟩
  | 32 => ⟨S24, .i32⟩
  | 33 => ⟨S_, .i32⟩
  | 34 => ⟨S_, .i32⟩
  | 35 => ⟨S24, .i32⟩
  | 36 => ⟨S168, .i32⟩
  | 37 => ⟨S_, .i32⟩
  | 38 => ⟨S168, .i32⟩
  | 39 => ⟨S168, .i32⟩
  | 40 => ⟨S168x1, .i32⟩
  | 41 => ⟨S1x24, .i32⟩
  | 42 => ⟨S168x24, .i32⟩
  | 43 => ⟨S168x24, .i32⟩
  | 44 => ⟨S168x24, .i1⟩
  | 45 => ⟨S168x24, .i32⟩
  | 46 => ⟨S_, .i32⟩
  | 47 => ⟨S168, .i32⟩
  | 48 => ⟨S_, .i32⟩
  | 49 => ⟨S168, .i32⟩
  | 50 => ⟨S168, .i32⟩
  | 51 => ⟨S_, .i32⟩
  | 52 => ⟨S168, .i32⟩
  | 53 => ⟨S168, .i1⟩
  | 54 => ⟨S_, .i32⟩
  | 55 => ⟨S168, .i32⟩
  | 56 => ⟨S168, .i32⟩
  | 57 => ⟨S168, .i32⟩
  | 58 => ⟨S168x1, .i32⟩
  | 59 => ⟨S168x2, .i32⟩
  | 60 => ⟨S168x256x1152, .f32⟩
  | 61 => ⟨S168x256x1024, .f32⟩
  | 62 => ⟨S168x256x2, .f32⟩
  | 63 => ⟨S168x256x1, .f32⟩
  | 64 => ⟨S168x1, .i32⟩
  | 65 => ⟨S168, .i32⟩
  | 66 => ⟨S_, .i32⟩
  | 67 => ⟨S168, .i32⟩
  | 68 => ⟨S168, .i1⟩
  | 69 => ⟨S_, .i32⟩
  | 70 => ⟨S168, .i32⟩
  | 71 => ⟨S168, .i32⟩
  | 72 => ⟨S168, .i32⟩
  | 73 => ⟨S168x1, .i32⟩
  | 74 => ⟨S168x1024x512, .f32⟩
  | 75 => ⟨S168x1, .i32⟩
  | 76 => ⟨S168, .i32⟩
  | 77 => ⟨S_, .i32⟩
  | 78 => ⟨S168, .i32⟩
  | 79 => ⟨S168, .i1⟩
  | 80 => ⟨S_, .i32⟩
  | 81 => ⟨S168, .i32⟩
  | 82 => ⟨S168, .i32⟩
  | 83 => ⟨S168, .i32⟩
  | 84 => ⟨S168x1, .i32⟩
  | 85 => ⟨S168x1024x512, .f32⟩
  | 86 => ⟨S168x1, .i32⟩
  | 87 => ⟨S168, .i32⟩
  | 88 => ⟨S_, .i32⟩
  | 89 => ⟨S168, .i32⟩
  | 90 => ⟨S168, .i1⟩
  | 91 => ⟨S_, .i32⟩
  | 92 => ⟨S168, .i32⟩
  | 93 => ⟨S168, .i32⟩
  | 94 => ⟨S168, .i32⟩
  | 95 => ⟨S168x1, .i32⟩
  | 96 => ⟨S168x512x1024, .f32⟩
  | 97 => ⟨S168x256x512, .f32⟩
  | 98 => ⟨S168x256x512, .f32⟩
  | 99 => ⟨S168x256x512, .f32⟩
  | 100 => ⟨S_, .f32⟩
  | 101 => ⟨S168x256x512, .f32⟩
  | 102 => ⟨S168x256x512, .f32⟩
  | 103 => ⟨S_, .f32⟩
  | 104 => ⟨S168x256x512, .f32⟩
  | 105 => ⟨S168x256x512, .f32⟩
  | 106 => ⟨S168x256x512, .f32⟩
  | 107 => ⟨S168x256x512, .f32⟩
  | 108 => ⟨S168x256x512, .f32⟩
  | 109 => ⟨S168x256x1024, .f32⟩
  | 110 => ⟨S168x256x1024, .f32⟩
  | 111 => ⟨S168x256x1024, .f32⟩
  | 112 => ⟨S168x256x1, .f32⟩
  | 113 => ⟨S168x1, .i32⟩
  | 114 => ⟨S168, .i32⟩
  | 115 => ⟨S_, .i32⟩
  | 116 => ⟨S168, .i32⟩
  | 117 => ⟨S168, .i1⟩
  | 118 => ⟨S_, .i32⟩
  | 119 => ⟨S168, .i32⟩
  | 120 => ⟨S168, .i32⟩
  | 121 => ⟨S168, .i32⟩
  | 122 => ⟨S168x1, .i32⟩
  | 123 => ⟨S168x1024x512, .f32⟩
  | 124 => ⟨S168x1, .i32⟩
  | 125 => ⟨S168, .i32⟩
  | 126 => ⟨S_, .i32⟩
  | 127 => ⟨S168, .i32⟩
  | _ => ⟨S24, .i32⟩

abbrev hbmTy0_1 (i : Nat) : BufTy := match i % 128 with
  | 0 => ⟨S168, .i1⟩
  | 1 => ⟨S_, .i32⟩
  | 2 => ⟨S168, .i32⟩
  | 3 => ⟨S168, .i32⟩
  | 4 => ⟨S168, .i32⟩
  | 5 => ⟨S168x1, .i32⟩
  | 6 => ⟨S168x1024x512, .f32⟩
  | 7 => ⟨S168x1, .i32⟩
  | 8 => ⟨S168, .i32⟩
  | 9 => ⟨S_, .i32⟩
  | 10 => ⟨S168, .i32⟩
  | 11 => ⟨S168, .i1⟩
  | 12 => ⟨S_, .i32⟩
  | 13 => ⟨S168, .i32⟩
  | 14 => ⟨S168, .i32⟩
  | 15 => ⟨S168, .i32⟩
  | 16 => ⟨S168x1, .i32⟩
  | 17 => ⟨S168x512x1024, .f32⟩
  | 18 => ⟨S168x256x512, .f32⟩
  | 19 => ⟨S168x256x512, .f32⟩
  | 20 => ⟨S168x256x512, .f32⟩
  | 21 => ⟨S_, .f32⟩
  | 22 => ⟨S168x256x512, .f32⟩
  | 23 => ⟨S168x256x512, .f32⟩
  | 24 => ⟨S_, .f32⟩
  | 25 => ⟨S168x256x512, .f32⟩
  | 26 => ⟨S168x256x512, .f32⟩
  | 27 => ⟨S168x256x512, .f32⟩
  | 28 => ⟨S168x256x512, .f32⟩
  | 29 => ⟨S168x256x512, .f32⟩
  | 30 => ⟨S168x256x1024, .f32⟩
  | 31 => ⟨S168x256x1024, .f32⟩
  | 32 => ⟨S168x256x1024, .f32⟩
  | 33 => ⟨S168x256x1024, .f32⟩
  | 34 => ⟨S1, .i32⟩
  | 35 => ⟨S_, .i32⟩
  | 36 => ⟨S168, .i32⟩
  | 37 => ⟨S168, .i1⟩
  | 38 => ⟨S168x1x1, .i1⟩
  | 39 => ⟨S_, .f32⟩
  | 40 => ⟨S_, .f32⟩
  | 41 => ⟨S168x256x1024, .i1⟩
  | 42 => ⟨S168x256x1024, .f32⟩
  | 43 => ⟨S168x256x1024, .f32⟩
  | 44 => ⟨S43008x1024, .f32⟩
  | _ => ⟨S24, .i32⟩

abbrev hbmTy (i : Nat) : BufTy := match i / 128 with
  | 0 => hbmTy0_0 i
  | 1 => hbmTy0_1 i
  | _ => ⟨S24, .i32⟩

abbrev bufTy : (tb : Table) → Fin (tcTables nBuf tb) → BufTy
  | .hbm, ⟨i, _⟩ => hbmTy i
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_3 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_c_6 : Ref sig .tc := ⟨.hbm, 48, rfl⟩
abbrev main_v18 : Ref sig .tc := ⟨.hbm, 49, rfl⟩
abbrev main_v19 : Ref sig .tc := ⟨.hbm, 50, rfl⟩
abbrev main_c_7 : Ref sig .tc := ⟨.hbm, 51, rfl⟩
abbrev main_v20 : Ref sig .tc := ⟨.hbm, 52, rfl⟩
abbrev main_v21 : Ref sig .tc := ⟨.hbm, 53, rfl⟩
abbrev main_c_8 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_c_10 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_c_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_13 : Ref sig .tc := ⟨.hbm, 88, rfl⟩
abbrev main_v51 : Ref sig .tc := ⟨.hbm, 89, rfl⟩
abbrev main_v52 : Ref sig .tc := ⟨.hbm, 90, rfl⟩
abbrev main_c_14 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_15 : Ref sig .tc := ⟨.hbm, 115, rfl⟩
abbrev main_v68 : Ref sig .tc := ⟨.hbm, 116, rfl⟩
abbrev main_v69 : Ref sig .tc := ⟨.hbm, 117, rfl⟩
abbrev main_c_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_17 : Ref sig .tc := ⟨.hbm, 126, rfl⟩
abbrev main_v77 : Ref sig .tc := ⟨.hbm, 127, rfl⟩
abbrev main_v78 : Ref sig .tc := ⟨.hbm, 128, rfl⟩
abbrev main_c_18 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_19 : Ref sig .tc := ⟨.hbm, 137, rfl⟩
abbrev main_v86 : Ref sig .tc := ⟨.hbm, 138, rfl⟩
abbrev main_v87 : Ref sig .tc := ⟨.hbm, 139, rfl⟩
abbrev main_c_20 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v106 : Ref sig .tc := ⟨.hbm, 171, rfl⟩
abbrev main_v107 : Ref sig .tc := ⟨.hbm, 172, rfl⟩

abbrev nD : Nat := 1
abbrev τ : Topo := Topo.v7x

variable {F : FTy → Type} [FloatOps F]
-- ==== Proof.AttOut.lean ====
/-
  What one grid point of the attention call leaves in its output block, read at an index.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem

/-- The pattern of minus infinity denotes `⊥`. -/
theorem ofBits_neg_inf : Ideal.ofBits .f32 0xFF800000#32 = ⊥ := by simp [Ideal.ofBits, Ideal.ieee]

/-- The scale the queries are multiplied by: the inverse root of the head's width, over `log 2`. -/
def cs : ℝ := (Real.sqrt 96)⁻¹ * (Real.log 2)⁻¹

/-- The kernel's named constant is that scale. -/
theorem named_cs : Named.named (F := Ideal) κ "scale_log2e" (φ := .f32) 0x3E16C740#32 = ((cs : ℝ) : EReal) :=
  IdealRules.named_const.ideal_named_scalar _ _ _ _ rfl

/-- The unnormalised weight of key `j` for a query row `Q`: two to the power of its score less the row's largest. -/
def wt (Q : Fin 128 → EReal) (K : Fin 2304 → Fin 128 → EReal) (j : Fin 2304) : EReal :=
  Ideal.exp2 ((∑ d, Q d * K j d) - Finset.univ.fold max ⊥ fun j => ∑ d, Q d * K j d)

/-- Row `r` of the four query blocks stacked, in the lanes of head `o` of the pair. -/
def qrow (x0 x1 x2 x3 : Vec Ideal S1x256x256 .f32) (o : Fin 2) (r : Fin 1024) (d : Fin 128) : EReal :=
  if h : r.val < 256 then x0 (ix3 0 ⟨r.val, h⟩ ⟨o.val * 128 + d.val, by omega⟩)
  else if h : r.val - 256 < 256 then x1 (ix3 0 ⟨r.val - 256, h⟩ ⟨o.val * 128 + d.val, by omega⟩)
  else if h : r.val - 256 - 256 < 256 then x2 (ix3 0 ⟨r.val - 256 - 256, h⟩ ⟨o.val * 128 + d.val, by omega⟩)
  else x3 (ix3 0 ⟨r.val - 256 - 256 - 256, by omega⟩ ⟨o.val * 128 + d.val, by omega⟩)

/-- The keys of head `o` of the pair. -/
def krow (x4 : Vec Ideal S1x2304x256 .bf16) (o : Fin 2) (j : Fin 2304) (d : Fin 128) : EReal :=
  x4 (ix3 0 j ⟨o.val * 128 + d.val, by omega⟩)

/-- The score matrix of the first head of the pair, exponentiated, at an index. -/
theorem p2_at (x0 x1 x2 x3 : Vec Ideal S1x256x256 .f32) (x4 : Vec Ideal S1x2304x256 .bf16) (r : Fin 1024) (j : Fin 2304) :
    k0_pay2 (View.ld x0 r0_0) (View.ld x1 r0_0) (View.ld x2 r0_0) (View.ld x3 r0_0) (View.ld x4 r0_1) (ix2 r j)
      = wt (fun d => qrow x0 x1 x2 x3 0 r d * (cs : EReal)) (krow x4 0) j := by
  pointwise [k0_pay2]
  simp only [ofBits_neg_inf, named_cs]
  unfold wt qrow krow
  simp only [Fin.val_zero, Nat.zero_mul, Nat.zero_add]
  rfl

/-- The score matrix of the second head of the pair, exponentiated, at an index. -/
theorem p7_at (x0 x1 x2 x3 : Vec Ideal S1x256x256 .f32) (x4 : Vec Ideal S1x2304x256 .bf16) (r : Fin 1024) (j : Fin 2304) :
    k0_pay7 (View.ld x0 r0_3) (View.ld x1 r0_3) (View.ld x2 r0_3) (View.ld x3 r0_3) (View.ld x4 r0_4) (ix2 r j)
      = wt (fun d => qrow x0 x1 x2 x3 1 r d * (cs : EReal)) (krow x4 1) j := by
  pointwise [k0_pay7]
  simp only [ofBits_neg_inf, named_cs]
  unfold wt qrow krow
  simp only [Fin.val_one, Nat.one_mul]
  rfl

/-- The lanes below 64 are those of the first head. -/
theorem in0 (l : Fin 128) : IntOp.andi (IntOp.cmpi .sge (BitVec.ofNat 32 l.val) 0#32) (IntOp.cmpi .slt (BitVec.ofNat 32 l.val) 64#32)
    = if l.val < 64 then 1#1 else 0#1 := by revert l; decide +kernel
/-- The lanes from 64 on are those of the second head. -/
theorem in1 (l : Fin 128) : IntOp.andi (IntOp.cmpi .sge (BitVec.ofNat 32 l.val) 64#32) (IntOp.cmpi .slt (BitVec.ofNat 32 l.val) 128#32)
    = if l.val < 64 then 0#1 else 1#1 := by revert l; decide +kernel
/-- The final selection takes the first head's result on the lanes below 64. -/
theorem lt64 (l : Fin 128) : IntOp.cmpi .slt (BitVec.ofNat 32 l.val) 64#32 = if l.val < 64 then 1#1 else 0#1 := by
  revert l; decide +kernel

/-- A selection on a true bit. -/
theorem sel_one {α : Type} (a b : α) : Scalar.select 1#1 a b = a := if_pos rfl
/-- A selection on a false bit. -/
theorem sel_zero {α : Type} (a b : α) : Scalar.select 0#1 a b = b := if_neg (by decide)

/-- One head's product with its values, divided by its product with the lane of ones, on the head's own lanes. -/
theorem p6_at (v18 : FVec Ideal S1024x2304 .bf16) (v25 : FVec Ideal S2304x128 .bf16) (r : Fin 1024) (l : Fin 128) (hl : l.val < 64) :
    k0_pay6 (F := Ideal) v18 k0_pay3 v25 k0_pay5 (Scalar.ofBits .f32 0x3F800000#32) (Scalar.ofBits .f32 0x00000000#32) (ix2 r l)
      = Ideal.div (∑ j, v18 (ix2 r j) * v25 (ix2 j l)) (∑ j, v18 (ix2 r j)) := by
  pointwise [k0_pay6, k0_pay3, k0_pay5]
  rw [in0 l, if_pos hl]
  have h1 : IntOp.andi (IntOp.cmpi .sge 64#32 0#32) (IntOp.cmpi .slt 64#32 64#32) = 0#1 := by decide
  rw [h1]
  simp only [sel_zero, sel_one, mul_one]

/-- The block stored, at an index: the first head's quotient on the lanes below 64, the second head's on the others. -/
theorem p1_at (v40 : FVec Ideal S1024x128 .f32) (v58 : FVec Ideal S1024x2304 .bf16) (v65 : Vec Ideal S1x2304x128 .bf16) (r : Fin 1024) (l : Fin 128) :
    k0_pay1 (iota .tc S1x128 32 [1] iota_S1x128_d1_w32) v40 v58 (k0_pay8 (iota .tc S1x128 32 [1] iota_S1x128_d1_w32)) v65 (ix3 0 r l)
      = if l.val < 64 then v40 (ix2 r l) else Ideal.div (∑ j, v58 (ix2 r j) * v65 (ix3 0 j l)) (∑ j, v58 (ix2 r j)) := by
  pointwise [k0_pay1, k0_pay8]
  rw [lt64 l, in1 l]
  have h1 : IntOp.andi (IntOp.cmpi .sge 0#32 64#32) (IntOp.cmpi .slt 0#32 128#32) = 0#1 := by decide
  rw [h1]
  by_cases hl : l.val < 64
  · simp only [hl, ↓reduceIte, sel_one]
  · simp only [hl, ↓reduceIte, sel_zero, sel_one, mul_one]

/-- THE BLOCK A GRID POINT WRITES, at row `r` and lane `l`: the weighted sum of the values in that lane over the sum of
    the weights, the weights those of the lane's head (`0` on the lanes below 64, `1` on the others). -/
theorem out_at (x0 x1 x2 x3 : Vec Ideal S1x256x256 .f32) (x4 : Vec Ideal S1x2304x256 .bf16) (x5 : Vec Ideal S1x2304x128 .bf16)
    (r : Fin 1024) (l : Fin 128) (o : Fin 2) (ho : o.val = l.val / 64) :
    out0_6 x0 x1 x2 x3 x4 x5 (ix3 0 r l)
      = Ideal.div (∑ j, wt (fun d => qrow x0 x1 x2 x3 o r d * (cs : EReal)) (krow x4 o) j * x5 (ix3 0 j l)) (∑ j, wt (fun d => qrow x0 x1 x2 x3 o r d * (cs : EReal)) (krow x4 o) j) := by
  frame_out
  unfold k0_pay9
  refine (p1_at _ _ _ r l).trans ?_
  by_cases hl : l.val < 64
  · have e : o = 0 := by apply Fin.ext; rw [ho]; show _ = 0; omega
    subst e
    rw [if_pos hl]
    refine (p6_at _ _ r l hl).trans ?_
    simp only [p2_at]
    pointwise [k0_pay4]
  · have e : o = 1 := by apply Fin.ext; rw [ho]; show _ = 1; omega
    subst e
    rw [if_neg hl]
    simp only [p7_at]

end Cert.KernelIdeal.Att

end
-- ==== Proof.AttArray.lean ====
/-
  The attention call's result array after the run, as a function of the argument arrays.
-/
module

public import proofs.«01_k».proof.Proof.AttOut
public import proofs.«01_k».proof.Proof.Gen.KernelIdeal.Value
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block every window takes at a grid point: batch row, row block and pair of heads. -/
theorem idx : ∀ t : Fin cfg0.N,
    win0_0.index t = ![t.val / 8, t.val % 2 * 4 + 1, t.val / 2 % 4] ∧ win0_1.index t = ![t.val / 8, t.val % 2 * 4 + 2, t.val / 2 % 4]
    ∧ win0_2.index t = ![t.val / 8, t.val % 2 * 4 + 3, t.val / 2 % 4] ∧ win0_3.index t = ![t.val / 8, t.val % 2 * 4 + 4, t.val / 2 % 4]
    ∧ win0_4.index t = ![t.val / 8, 0, t.val / 2 % 4] ∧ win0_5.index t = ![t.val / 8, 0, t.val / 2 % 4]
    ∧ win0_6.index t = ![t.val / 8, t.val % 2, t.val / 2 % 4] :=
  (by decide +kernel : ∀ t : Fin grid0.N, _)

/-- There are 128 grid points. -/
theorem tlt (t : Fin cfg0.N) : t.val < 128 := t.isLt

/-- Query window 0's block at a grid point, read off its array. -/
theorem blk0 (t : Fin cfg0.N) (W : S16x2304x1024.Idx → EReal) (a : Fin 256) (e : Fin 256) :
    ((cfg0.win 0).blk t).view.read (Elt Ideal) W (ix3 0 a e)
      = W (ix3 ⟨t.val / 8, by have := tlt t; omega⟩ ⟨256 * (t.val % 2 * 4 + 1) + a.val, by omega⟩ ⟨256 * (t.val / 2 % 4) + e.val, by omega⟩) := by
  show W _ = W _
  refine congrArg W (funext fun k => Fin.ext ?_)
  blk_simp [idx t]
  match k with
  | ⟨0, _⟩ => exact Nat.mul_one _
  | ⟨1, _⟩ => exact congrArg (· + a.val) (Nat.mul_comm _ 256)
  | ⟨2, _⟩ => exact congrArg (· + e.val) (Nat.mul_comm _ 256)

/-- Query window 1's block at a grid point, read off its array. -/
theorem blk1 (t : Fin cfg0.N) (W : S16x2304x1024.Idx → EReal) (a : Fin 256) (e : Fin 256) :
    ((cfg0.win 1).blk t).view.read (Elt Ideal) W (ix3 0 a e)
      = W (ix3 ⟨t.val / 8, by have := tlt t; omega⟩ ⟨256 * (t.val % 2 * 4 + 2) + a.val, by omega⟩ ⟨256 * (t.val / 2 % 4) + e.val, by omega⟩) := by
  show W _ = W _
  refine congrArg W (funext fun k => Fin.ext ?_)
  blk_simp [idx t]
  match k with
  | ⟨0, _⟩ => exact Nat.mul_one _
  | ⟨1, _⟩ => exact congrArg (· + a.val) (Nat.mul_comm _ 256)
  | ⟨2, _⟩ => exact congrArg (· + e.val) (Nat.mul_comm _ 256)

/-- Query window 2's block at a grid point, read off its array. -/
theorem blk2 (t : Fin cfg0.N) (W : S16x2304x1024.Idx → EReal) (a : Fin 256) (e : Fin 256) :
    ((cfg0.win 2).blk t).view.read (Elt Ideal) W (ix3 0 a e)
      = W (ix3 ⟨t.val / 8, by have := tlt t; omega⟩ ⟨256 * (t.val % 2 * 4 + 3) + a.val, by omega⟩ ⟨256 * (t.val / 2 % 4) + e.val, by omega⟩) := by
  show W _ = W _
  refine congrArg W (funext fun k => Fin.ext ?_)
  blk_simp [idx t]
  match k with
  | ⟨0, _⟩ => exact Nat.mul_one _
  | ⟨1, _⟩ => exact congrArg (· + a.val) (Nat.mul_comm _ 256)
  | ⟨2, _⟩ => exact congrArg (· + e.val) (Nat.mul_comm _ 256)

/-- Query window 3's block at a grid point, read off its array. -/
theorem blk3 (t : Fin cfg0.N) (W : S16x2304x1024.Idx → EReal) (a : Fin 256) (e : Fin 256) :
    ((cfg0.win 3).blk t).view.read (Elt Ideal) W (ix3 0 a e)
      = W (ix3 ⟨t.val / 8, by have := tlt t; omega⟩ ⟨256 * (t.val % 2 * 4 + 4) + a.val, by omega⟩ ⟨256 * (t.val / 2 % 4) + e.val, by omega⟩) := by
  show W _ = W _
  refine congrArg W (funext fun k => Fin.ext ?_)
  blk_simp [idx t]
  match k with
  | ⟨0, _⟩ => exact Nat.mul_one _
  | ⟨1, _⟩ => exact congrArg (· + a.val) (Nat.mul_comm _ 256)
  | ⟨2, _⟩ => exact congrArg (· + e.val) (Nat.mul_comm _ 256)

/-- The key window's block at a grid point, read off its array. -/
theorem blk4 (t : Fin cfg0.N) (W : S16x2304x1024.Idx → EReal) (a : Fin 2304) (e : Fin 256) :
    ((cfg0.win 4).blk t).view.read (Elt Ideal) W (ix3 0 a e)
      = W (ix3 ⟨t.val / 8, by have := tlt t; omega⟩ a ⟨256 * (t.val / 2 % 4) + e.val, by omega⟩) := by
  show W _ = W _
  refine congrArg W (funext fun k => Fin.ext ?_)
  blk_simp [idx t]
  match k with
  | ⟨0, _⟩ => exact Nat.mul_one _
  | ⟨1, _⟩ => exact (congrArg (· + a.val) (Nat.zero_mul _)).trans (Nat.zero_add _)
  | ⟨2, _⟩ => exact congrArg (· + e.val) (Nat.mul_comm _ 256)

/-- The value window's block at a grid point, read off its array. -/
theorem blk5 (t : Fin cfg0.N) (W : S16x2304x512.Idx → EReal) (a : Fin 2304) (e : Fin 128) :
    ((cfg0.win 5).blk t).view.read (Elt Ideal) W (ix3 0 a e)
      = W (ix3 ⟨t.val / 8, by have := tlt t; omega⟩ a ⟨128 * (t.val / 2 % 4) + e.val, by omega⟩) := by
  show W _ = W _
  refine congrArg W (funext fun k => Fin.ext ?_)
  blk_simp [idx t]
  match k with
  | ⟨0, _⟩ => exact Nat.mul_one _
  | ⟨1, _⟩ => exact (congrArg (· + a.val) (Nat.zero_mul _)).trans (Nat.zero_add _)
  | ⟨2, _⟩ => exact congrArg (· + e.val) (Nat.mul_comm _ 128)

/-- The array the call leaves, as a function of the arrays its windows read. -/
def G (Q K : S16x2304x1024.Idx → EReal) (W : S16x2304x512.Idx → EReal) : S16x2048x512.Idx → EReal := fun i =>
  Ideal.div
    (∑ j, wt (fun d => Q (ix3 (i 0) ⟨256 + (i 1).val, by have := (i 1).isLt; change _ < 2048 at this; omega⟩ ⟨(i 2).val / 64 * 128 + d.val, by have := (i 2).isLt; change _ < 512 at this; omega⟩) * (cs : EReal))
        (fun j d => K (ix3 (i 0) j ⟨(i 2).val / 64 * 128 + d.val, by have := (i 2).isLt; change _ < 512 at this; omega⟩)) j
      * W (ix3 (i 0) j (i 2)))
    (∑ j, wt (fun d => Q (ix3 (i 0) ⟨256 + (i 1).val, by have := (i 1).isLt; change _ < 2048 at this; omega⟩ ⟨(i 2).val / 64 * 128 + d.val, by have := (i 2).isLt; change _ < 512 at this; omega⟩) * (cs : EReal))
        (fun j d => K (ix3 (i 0) j ⟨(i 2).val / 64 * 128 + d.val, by have := (i 2).isLt; change _ < 512 at this; omega⟩)) j)

/-- Four blocks of rows that lie in the array below one another, read as one block. -/
theorem qrow_of (x0 x1 x2 x3 : Vec Ideal S1x256x256 .f32) (W : S16x2304x1024.Idx → EReal) (b : Fin 16) (s : Fin 2) (p : Fin 4)
    (h0 : ∀ a e, x0 (ix3 0 a e) = W (ix3 b ⟨256 * (s.val * 4 + 1) + a.val, by omega⟩ ⟨256 * p.val + e.val, by omega⟩))
    (h1 : ∀ a e, x1 (ix3 0 a e) = W (ix3 b ⟨256 * (s.val * 4 + 2) + a.val, by omega⟩ ⟨256 * p.val + e.val, by omega⟩))
    (h2 : ∀ a e, x2 (ix3 0 a e) = W (ix3 b ⟨256 * (s.val * 4 + 3) + a.val, by omega⟩ ⟨256 * p.val + e.val, by omega⟩))
    (h3 : ∀ a e, x3 (ix3 0 a e) = W (ix3 b ⟨256 * (s.val * 4 + 4) + a.val, by omega⟩ ⟨256 * p.val + e.val, by omega⟩))
    (o : Fin 2) (r : Fin 1024) (d : Fin 128) (n : Fin 2304) (L : Fin 1024) (hn : n.val = 256 + (s.val * 1024 + r.val))
    (hL : L.val = p.val * 256 + o.val * 128 + d.val) :
    qrow x0 x1 x2 x3 o r d = W (ix3 b n L) := by
  have key : ∀ (n' : Fin 2304) (L' : Fin 1024), n'.val = n.val → L'.val = L.val → W (ix3 b n' L') = W (ix3 b n L) := by
    intro n' L' hn' hL'
    rw [Fin.ext hn', Fin.ext hL']
  unfold qrow
  split
  · rw [h0]; exact key _ _ (by dsimp only; omega) (by dsimp only; omega)
  · split
    · rw [h1]; exact key _ _ (by dsimp only; omega) (by dsimp only; omega)
    · split
      · rw [h2]; exact key _ _ (by dsimp only; omega) (by dsimp only; omega)
      · rw [h3]; exact key _ _ (by dsimp only; omega) (by dsimp only; omega)

/-- The block a grid point leaves is its part of `G`. -/
theorem out_G (x0 x1 x2 x3 : Vec Ideal S1x256x256 .f32) (x4 : Vec Ideal S1x2304x256 .bf16) (x5 : Vec Ideal S1x2304x128 .bf16)
    (Q K : S16x2304x1024.Idx → EReal) (W : S16x2304x512.Idx → EReal) (b : Fin 16) (s : Fin 2) (p : Fin 4)
    (h0 : ∀ a e, x0 (ix3 0 a e) = Q (ix3 b ⟨256 * (s.val * 4 + 1) + a.val, by omega⟩ ⟨256 * p.val + e.val, by omega⟩))
    (h1 : ∀ a e, x1 (ix3 0 a e) = Q (ix3 b ⟨256 * (s.val * 4 + 2) + a.val, by omega⟩ ⟨256 * p.val + e.val, by omega⟩))
    (h2 : ∀ a e, x2 (ix3 0 a e) = Q (ix3 b ⟨256 * (s.val * 4 + 3) + a.val, by omega⟩ ⟨256 * p.val + e.val, by omega⟩))
    (h3 : ∀ a e, x3 (ix3 0 a e) = Q (ix3 b ⟨256 * (s.val * 4 + 4) + a.val, by omega⟩ ⟨256 * p.val + e.val, by omega⟩))
    (h4 : ∀ a e, x4 (ix3 0 a e) = K (ix3 b a ⟨256 * p.val + e.val, by omega⟩))
    (h5 : ∀ a e, x5 (ix3 0 a e) = W (ix3 b a ⟨128 * p.val + e.val, by omega⟩))
    (r : Fin 1024) (l : Fin 128) (i : S16x2048x512.Idx) (hi0 : i 0 = b) (hi1 : (i 1).val = s.val * 1024 + r.val) (hi2 : (i 2).val = p.val * 128 + l.val) :
    out0_6 x0 x1 x2 x3 x4 x5 (ix3 0 r l) = G Q K W i := by
  have ho : l.val / 64 < 2 := by omega
  rw [out_at x0 x1 x2 x3 x4 x5 r l ⟨l.val / 64, ho⟩ rfl]
  have hq : (fun d => qrow x0 x1 x2 x3 ⟨l.val / 64, ho⟩ r d * (cs : EReal))
      = fun d : Fin 128 => Q (ix3 (i 0) ⟨256 + (i 1).val, by have := (i 1).isLt; change _ < 2048 at this; omega⟩ ⟨(i 2).val / 64 * 128 + d.val, by have := (i 2).isLt; change _ < 512 at this; omega⟩) * (cs : EReal) := by
    funext d
    rw [qrow_of x0 x1 x2 x3 Q b s p h0 h1 h2 h3 ⟨l.val / 64, ho⟩ r d ⟨256 + (i 1).val, by have := (i 1).isLt; change _ < 2048 at this; omega⟩
      ⟨(i 2).val / 64 * 128 + d.val, by have := (i 2).isLt; change _ < 512 at this; omega⟩ (by dsimp only; omega) (by dsimp only; omega), hi0]
  have hk : krow x4 ⟨l.val / 64, ho⟩ = fun (j : Fin 2304) (d : Fin 128) => K (ix3 (i 0) j ⟨(i 2).val / 64 * 128 + d.val, by have := (i 2).isLt; change _ < 512 at this; omega⟩) := by
    funext j d
    unfold krow
    rw [h4, hi0]
    exact congrArg K (congrArg (ix3 b j) (Fin.ext (by dsimp only; omega)))
  have hv : ∀ j, x5 (ix3 0 j l) = W (ix3 (i 0) j (i 2)) := by
    intro j
    rw [h5, hi0]
    exact congrArg W (congrArg (ix3 b j) (Fin.ext (by dsimp only; omega)))
  rw [hq, hk]
  simp only [hv]
  rfl

/-- THE ARRAY the call leaves: `G` of the three arrays its windows read. -/
theorem final (c : Dev nD) : (dats m 0 c).arrAt 6 cfg0.N = G (V m c main_v1) (V m c main_v4) (V m c main_v7) := by
  refine (dats m 0 c).arrAt_eq_of_covers 6 _ (by decide +kernel) fun t _ y => ?_
  generalize hi : ((cfg0.win 6).blk t).view.emb y = i
  have hy0 : (y 0).val = 0 := Nat.lt_one_iff.mp (y 0).isLt
  have hi0 : (i 0).val = t.val / 8 * 1 + (y 0).val := by rw [← hi]; blk_simp [idx t]
  have hi1 : (i 1).val = t.val % 2 * 1024 + (y 1).val := by rw [← hi]; blk_simp [idx t]
  have hi2 : (i 2).val = t.val / 2 % 4 * 128 + (y 2).val := by rw [← hi]; blk_simp [idx t]
  have ht := tlt t
  rw [cast_eq]
  refine (congrFun (after0_6 m c t) _).trans ?_
  have e : (cfg0.win 6).xinj (cfg0.grid.coords t) y = (ix3 (0 : Fin 1) (⟨(y 1).val, (y 1).isLt⟩ : Fin 1024) (⟨(y 2).val, (y 2).isLt⟩ : Fin 128) : S1x1024x128.Idx) := by
    funext k
    match k with
    | ⟨0, _⟩ => exact Fin.ext hy0
    | ⟨1, _⟩ => exact Fin.ext rfl
    | ⟨2, _⟩ => exact Fin.ext rfl
  refine (congrArg (out0_6 (iblk m c 0 t) (iblk m c 1 t) (iblk m c 2 t) (iblk m c 3 t) (iblk m c 4 t) (iblk m c 5 t)) e).trans ?_
  refine out_G _ _ _ _ _ _ (V m c main_v1) (V m c main_v4) (V m c main_v7) ⟨t.val / 8, by omega⟩ ⟨t.val % 2, by omega⟩ ⟨t.val / 2 % 4, by omega⟩
    (fun a e => blk0 t (V m c (Pipeline.arrRef spec0 0)) a e) (fun a e => blk1 t (V m c (Pipeline.arrRef spec0 1)) a e)
    (fun a e => blk2 t (V m c (Pipeline.arrRef spec0 2)) a e) (fun a e => blk3 t (V m c (Pipeline.arrRef spec0 3)) a e)
    (fun a e => blk4 t (V m c (Pipeline.arrRef spec0 4)) a e) (fun a e => blk5 t (V m c (Pipeline.arrRef spec0 5)) a e)
    _ _ i (Fin.ext ?_) hi1 hi2
  rw [hi0, hy0]; exact (Nat.mul_one _)

end Cert.KernelIdeal.Att

end
-- ==== Proof.AttHost.lean ====
/-
  The arrays the attention call's windows read, in terms of the argument arrays.
-/
module

public import proofs.«01_k».proof.Proof.AttOut
public import proofs.«01_k».proof.Proof.Gen.KernelIdeal.Value
public import Idealize.ShloMosaic.Lib.Claim
public import Idealize.ShloMosaic.Lib.KernelVsHost

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- A change of float format changes no value. -/
theorem cast_id {s : Shape} (x : FVec Ideal s .f32) : (truncf .bf16 x bitsLt_bf16_f32 : FVec Ideal s .bf16) = x := rfl

/-- An array of 96 columns a head, padded with zeros to 128 columns and its heads laid side by side, as the call's windows read it. -/
def padded (x : S16x2304x8x96.Idx → EReal) : S16x2304x1024.Idx → EReal :=
  shapeCast S16x2304x1024 (pad S16x2304x8x128 ![0, 0, 0, 0] ![0, 0, 0, 32] ![0, 0, 0, 0] (x : FVec Ideal S16x2304x8x96 .f32)
    (sitofp (F := Ideal) .f32 (constantI S_ 32 0#32)) pads_S16x2304x8x96_S16x2304x8x128_000_000_000_0320 h_S_) shapeCasts_S16x2304x8x128_S16x2304x1024

/-- The padded array at a head's own columns, and zero beside them. -/
theorem padded_at (x : S16x2304x8x96.Idx → EReal) (b : Fin 16) (j : Fin 2304) (h : Fin 8) (d : Fin 128) (L : Fin 1024) (hL : L.val = h.val * 128 + d.val) :
    padded x (ix3 b j L) = if hd : d.val < 96 then x (ix4 b j h ⟨d.val, hd⟩) else 0 := by
  rw [show L = ⟨h.val * 128 + d.val, by omega⟩ from Fin.ext hL]
  unfold padded
  pointwise
  have z : (FloatOps.sitofp (F := Ideal) .f32 0#32 : EReal) = 0 := sitofp_zero
  rw [z]

/-- The queries' array. -/
theorem V_q (c : Dev nD) : V m c main_v1 = padded (m ((c : Thread nD τ).loc main_arg0)) := by
  unfold V
  simp only [List.flatten_cons, List.flatten_nil, List.append_nil, List.cons_append, List.nil_append]
  after_results
  refine funext fun i => ?_
  unfold padded
  rfl
/-- The keys' array. -/
theorem V_k (c : Dev nD) : V m c main_v4 = padded (m ((c : Thread nD τ).loc main_arg1)) := by
  unfold V
  simp only [List.flatten_cons, List.flatten_nil, List.append_nil, List.cons_append, List.nil_append]
  after_results
  refine (cast_id _).trans (funext fun i => ?_)
  unfold padded
  rfl

/-- The values' array: the heads laid side by side, nothing padded. -/
def flat (x : S16x2304x8x64.Idx → EReal) : S16x2304x512.Idx → EReal :=
  shapeCast S16x2304x512 (pad S16x2304x8x64 ![0, 0, 0, 0] ![0, 0, 0, 0] ![0, 0, 0, 0] (x : FVec Ideal S16x2304x8x64 .f32)
    (sitofp (F := Ideal) .f32 (constantI S_ 32 0#32)) pads_S16x2304x8x64_S16x2304x8x64_000_000_000_000 h_S_) shapeCasts_S16x2304x8x64_S16x2304x512

/-- The values' array at an index. -/
theorem flat_at (x : S16x2304x8x64.Idx → EReal) (b : Fin 16) (j : Fin 2304) (h : Fin 8) (e : Fin 64) (L : Fin 512) (hL : L.val = h.val * 64 + e.val) :
    flat x (ix3 b j L) = x (ix4 b j h e) := by
  rw [show L = ⟨h.val * 64 + e.val, by omega⟩ from Fin.ext hL]
  unfold flat
  pointwise
/-- The values' array. -/
theorem V_v (c : Dev nD) : V m c main_v7 = flat (m ((c : Thread nD τ).loc main_arg2)) := by
  unfold V
  simp only [List.flatten_cons, List.flatten_nil, List.append_nil, List.cons_append, List.nil_append]
  after_results
  refine (cast_id _).trans (funext fun i => ?_)
  unfold flat
  rfl
end Cert.KernelIdeal.Att

end
-- ==== Proof.AttRef.lean ====
/-
  The reference's attention read at an index: the softmax of the scaled scores, multiplied with the values.
-/
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Idealize.ShloMosaic Idealize.ShloMosaic.TcCoe Idealize.SL.Sem

/-- The scaled scores. -/
def score (q k : FVec Ideal S16x2304x8x96 .f32) : FVec Ideal S16x8x2048x2304 .f32 :=
  (Host.divf (Host.dotGeneral dot_S16x2048x8x96_S16x2304x8x96_S16x8x2048x2304_3_3_1_1_02_02 none (extractStridedSlice S16x2048x8x96 ![0, 256, 0, 0] q slices_S16x2304x8x96_S16x2048x8x96_0_256_0_0) k) (broadcastInDim S16x8x2048x2304 ![] bcast_S_S16x8x2048x2304 (Host.sqrt (constant S_ .f32 0x42C00000#32))))

/-- The scores less their row's largest, exponentiated. -/
def expo (q k : FVec Ideal S16x2304x8x96 .f32) : FVec Ideal S16x8x2048x2304 .f32 :=
  (Host.exp (subf (score q k) (broadcastInDim S16x8x2048x2304 ![0, 1, 2, 3] bcast_S16x8x2048x1_S16x8x2048x2304_0_1_2_3 (broadcastInDim S16x8x2048x1 ![0, 1, 2] bcast_S16x8x2048_S16x8x2048x1_0_1_2 (maximumf (broadcastInDim S16x8x2048 ![] bcast_S_S16x8x2048 (constant S_ .f32 0xFF800000#32)) (Host.reduce FloatOps.maximumf (score q k) (constant S_ .f32 0xFF800000#32) reducesTo_S16x8x2048x2304_S16x8x2048_d3 h_S_))))))

/-- The reference's result. -/
def REF (q k : FVec Ideal S16x2304x8x96 .f32) (v : FVec Ideal S16x2304x8x64 .f32) : FVec Ideal S16x2048x512 .bf16 :=
  truncf .bf16 (shapeCast _ (transpose S16x2048x8x64 [0, 3, 1, 2] (Host.dotGeneral dot_S16x2304x8x64_S16x8x2048x2304_S16x8x64x2048_1_3_3_2_02_01 none v (Host.divf (expo q k) (broadcastInDim S16x8x2048x2304 ![0, 1, 2, 3] bcast_S16x8x2048x1_S16x8x2048x2304_0_1_2_3 (broadcastInDim S16x8x2048x1 ![0, 1, 2] bcast_S16x8x2048_S16x8x2048x1_0_1_2 (Host.reduceAdd (expo q k) (constant S_ .f32 0x00000000#32) reducesTo_S16x8x2048x2304_S16x8x2048_d3 h_S_))))) transposes_S16x8x64x2048_S16x2048x8x64_0_3_1_2) shapeCasts_S16x2048x8x64_S16x2048x512) bitsLt_bf16_f32

/-- The scaled score of query `i` and key `j` in head `h`. -/
def sc (q k : FVec Ideal S16x2304x8x96 .f32) (b : Fin 16) (h : Fin 8) (i : Fin 2048) (j : Fin 2304) : EReal :=
  Ideal.div (∑ d : Fin 96, (q (ix4 b ⟨256 + i.val, by omega⟩ h d) : EReal) * k (ix4 b j h d)) (Real.sqrt 96 : ℝ)

/-- The scaled scores at an index. -/
theorem score_at (q k : FVec Ideal S16x2304x8x96 .f32) (b : Fin 16) (h : Fin 8) (i : Fin 2048) (j : Fin 2304) :
    score q k (ix4 b h i j) = sc q k b h i j := by
  unfold score
  pointwise
  have e : Ideal.ofBits .f32 1119879168#32 = ((96 : ℝ) : EReal) := by
    simp [Ideal.ofBits, Ideal.ieee, -EReal.coe_mul]; norm_num
  rw [e, Ideal.sqrt_coe, if_neg (by norm_num)]
  rfl

/-- The pattern of minus infinity denotes `⊥`. -/
theorem ofBits_neg_inf : Ideal.ofBits .f32 0xFF800000#32 = ⊥ := by simp [Ideal.ofBits, Ideal.ieee]

/-- A row's largest entry, as the fold of `max` from `⊥`. -/
theorem max_at (s : FVec Ideal S16x8x2048x2304 .f32) (b : Fin 16) (h : Fin 8) (i : Fin 2048) :
    Host.reduce FloatOps.maximumf s (constant S_ .f32 0xFF800000#32) reducesTo_S16x8x2048x2304_S16x8x2048_d3 h_S_ (ix3 b h i)
      = Finset.univ.fold max ⊥ fun j => s (ix4 b h i j) := by
  rw [Host.reduce_eq_fold, Shape.ReducesTo.fold_fiber_r4_a3]
  refine Eq.trans (b := Finset.univ.fold max (Ideal.ofBits .f32 0xFF800000#32) fun j => s (ix4 b h i j)) rfl ?_
  rw [ofBits_neg_inf]

/-- An array less its rows' bounds, exponentiated, at an index. -/
theorem exp_sub_at (s : FVec Ideal S16x8x2048x2304 .f32) (M : FVec Ideal S16x8x2048 .f32) (b : Fin 16) (h : Fin 8) (i : Fin 2048) (j : Fin 2304) :
    Host.exp (subf s (broadcastInDim S16x8x2048x2304 ![0, 1, 2, 3] bcast_S16x8x2048x1_S16x8x2048x2304_0_1_2_3 (broadcastInDim S16x8x2048x1 ![0, 1, 2] bcast_S16x8x2048_S16x8x2048x1_0_1_2 (maximumf (broadcastInDim S16x8x2048 ![] bcast_S_S16x8x2048 (constant S_ .f32 0xFF800000#32)) M)))) (ix4 b h i j)
      = Ideal.exp ((s (ix4 b h i j) : EReal) - max ⊥ (M (ix3 b h i) : EReal)) := by
  pointwise
  rw [ofBits_neg_inf]

/-- The exponentiated scores at an index. -/
theorem expo_at (q k : FVec Ideal S16x2304x8x96 .f32) (b : Fin 16) (h : Fin 8) (i : Fin 2048) (j : Fin 2304) :
    expo q k (ix4 b h i j) = Ideal.exp (sc q k b h i j - max ⊥ (Finset.univ.fold max ⊥ fun j => sc q k b h i j)) := by
  unfold expo
  rw [exp_sub_at, max_at]
  simp only [score_at]

/-- The reference's result at an index. -/
theorem ref_at (q k : FVec Ideal S16x2304x8x96 .f32) (v : FVec Ideal S16x2304x8x64 .f32) (b : Fin 16) (i : Fin 2048) (h : Fin 8) (e : Fin 64) :
    REF q k v (ix3 b i ⟨h.val * 64 + e.val, by omega⟩) = ∑ j, (v (ix4 b j h e) : EReal) * Ideal.div (Ideal.exp (sc q k b h i j - max ⊥ (Finset.univ.fold max ⊥ fun j => sc q k b h i j)))
      (0 + ∑ k', Ideal.exp (sc q k b h i k' - max ⊥ (Finset.univ.fold max ⊥ fun j => sc q k b h i j))) := by
  unfold REF
  simp only [← expo_at]
  generalize expo q k = x
  pointwise

end Cert.ReferenceIdeal.Att

end
-- ==== Proof.SoftmaxCore.lean ====
/-
  Softmax over the extended reals: the attention weights of a row of finite scores, computed with base-two
  exponentials and normalised after the weighted sum, are the textbook softmax applied to the values.
-/
module

public import Idealize.ShloMosaic.PureOps.Ideal

@[expose] public section

noncomputable section

namespace Cert.Softmax

open Idealize.ShloMosaic

/-- A finite sum of reals, read in the extended reals, is the sum of the readings. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A nonnegative real factor distributes over any finite sum of extended reals. -/
theorem sum_mul_coe {ι : Type} [DecidableEq ι] (s : Finset ι) (f : ι → EReal) {c : ℝ} (hc : 0 ≤ c) :
    (∑ i ∈ s, f i) * (c : EReal) = ∑ i ∈ s, f i * (c : EReal) := by
  induction s using Finset.induction_on with
  | empty => simp
  | insert a s ha ih =>
    rw [Finset.sum_insert ha, Finset.sum_insert ha, ← ih]
    rw [mul_comm, EReal.left_distrib_of_nonneg_of_ne_top (EReal.coe_nonneg.2 hc) (EReal.coe_ne_top c), mul_comm, mul_comm _ (∑ i ∈ s, f i)]

/-- The running maximum of a family from `⊥` is its value at an index where it is largest. -/
theorem fold_max_eq {n : ℕ} (f : Fin n → EReal) (j₀ : Fin n) (h : ∀ j, f j ≤ f j₀) : Finset.univ.fold max ⊥ f = f j₀ := by
  refine le_antisymm ((Finset.fold_max_le _).2 ⟨bot_le, fun j _ => h j⟩) ?_
  exact (Finset.le_fold_max _).2 (Or.inr ⟨j₀, Finset.mem_univ _, le_rfl⟩)

/-- A nonempty family of reals attains its maximum. -/
theorem exists_max {n : ℕ} (hn : 0 < n) (a : Fin n → ℝ) : ∃ j₀, ∀ j, a j ≤ a j₀ := by
  haveI : Nonempty (Fin n) := ⟨⟨0, hn⟩⟩
  exact Finite.exists_max a

/-- The base-two exponential of a score divided by `log 2` is the natural exponential of the score. -/
theorem exp2_div_log (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

/-- ATTENTION OF ONE ROW. For finite scores `a`, weights `2 ^ (b j - max b)` with `b = a / log 2`, summed against
    arbitrary extended-real values and then divided by the weights' sum, are the values weighted by
    `exp (a j - max a) / Σ exp (a j - max a)`. -/
theorem row {n : ℕ} (hn : 0 < n) (a : Fin n → ℝ) (v : Fin n → EReal) :
    let A : Fin n → EReal := fun j => (a j : EReal)
    let B : Fin n → EReal := fun j => ((a j * (Real.log 2)⁻¹ : ℝ) : EReal)
    Ideal.div (∑ j, Ideal.exp2 (B j - Finset.univ.fold max ⊥ B) * v j) (∑ j, Ideal.exp2 (B j - Finset.univ.fold max ⊥ B))
      = ∑ j, v j * Ideal.div (Ideal.exp (A j - max ⊥ (Finset.univ.fold max ⊥ A))) (0 + ∑ k, Ideal.exp (A k - max ⊥ (Finset.univ.fold max ⊥ A))) := by
  intro A B
  obtain ⟨j₀, h₀⟩ := exists_max hn a
  have hl : 0 < (Real.log 2)⁻¹ := inv_pos.2 (Real.log_pos (by norm_num))
  have hA : Finset.univ.fold max ⊥ A = A j₀ := fold_max_eq A j₀ fun j => EReal.coe_le_coe_iff.2 (h₀ j)
  have hB : Finset.univ.fold max ⊥ B = B j₀ :=
    fold_max_eq B j₀ fun j => EReal.coe_le_coe_iff.2 (mul_le_mul_of_nonneg_right (h₀ j) hl.le)
  have eA (j) : Ideal.exp (A j - max ⊥ (Finset.univ.fold max ⊥ A)) = ((Real.exp (a j - a j₀) : ℝ) : EReal) := by
    rw [hA, max_eq_right bot_le]
    show Ideal.exp ((a j : EReal) - (a j₀ : EReal)) = _
    rw [← EReal.coe_sub, Ideal.exp_coe]
  have eB (j) : Ideal.exp2 (B j - Finset.univ.fold max ⊥ B) = ((Real.exp (a j - a j₀) : ℝ) : EReal) := by
    rw [hB]
    show Ideal.exp2 (((a j * (Real.log 2)⁻¹ : ℝ) : EReal) - ((a j₀ * (Real.log 2)⁻¹ : ℝ) : EReal)) = _
    rw [← EReal.coe_sub, ← sub_mul, exp2_div_log]
  simp only [eA, eB, zero_add]
  rw [← coe_sum]
  have hs : 0 < ∑ j, Real.exp (a j - a j₀) := Finset.sum_pos (fun j _ => Real.exp_pos _) ⟨j₀, Finset.mem_univ _⟩
  rw [Ideal.div_coe hs.ne', sum_mul_coe _ _ (one_div_pos.2 hs).le]
  refine Finset.sum_congr rfl fun j _ => ?_
  rw [Ideal.div_coe hs.ne', mul_comm (Real.exp _ : EReal) (v j), mul_assoc]

end Cert.Softmax

end
-- ==== Proof.AttEq.lean ====
/-
  The attention call and the reference's attention agree: finite queries and keys, any values.
-/
module

public import proofs.«01_k».proof.Defs
public import proofs.«01_k».proof.Proof.AttArray
public import proofs.«01_k».proof.Proof.AttHost
public import proofs.«01_k».proof.Proof.AttRef
public import proofs.«01_k».proof.Proof.SoftmaxCore
public import Idealize.ShloMosaic.Lib.ReduceAll

@[expose] public section

set_option maxRecDepth 16384

noncomputable section

namespace Cert.Att

open Idealize.ShloMosaic Idealize.ShloMosaic.TcCoe Idealize.SL.Sem
open Cert.KernelIdeal (S16x2304x8x96 S16x2304x8x64 S16x2048x512 S_)
open Cert.KernelIdeal.Att (wt cs padded padded_at flat flat_at G)
open Cert.ReferenceIdeal.Att (REF ref_at sc)

/-- The scaled score as a real number. -/
def a (qr kr : S16x2304x8x96.Idx → ℝ) (b : Fin 16) (h : Fin 8) (i : Fin 2048) (j : Fin 2304) : ℝ :=
  (∑ d : Fin 96, qr (ix4 b ⟨256 + i.val, by omega⟩ h d) * kr (ix4 b j h d)) * (Real.sqrt 96)⁻¹

/-- The reference's score of finite queries and keys is that real number. -/
theorem sc_eq (qr kr : S16x2304x8x96.Idx → ℝ) (b : Fin 16) (h : Fin 8) (i : Fin 2048) (j : Fin 2304) :
    sc (fun y => ((qr y : ℝ) : EReal)) (fun y => ((kr y : ℝ) : EReal)) b h i j = ((a qr kr b h i j : ℝ) : EReal) := by
  unfold sc a
  have h96 : Real.sqrt 96 ≠ 0 := (Real.sqrt_pos.2 (by norm_num)).ne'
  rw [Ideal.div_coe h96, EReal.coe_mul, Cert.Softmax.coe_sum, one_div]
  simp only [EReal.coe_mul]

/-- A sum over a head's padded columns is the sum over its own columns. -/
theorem sum_pad (f : Fin 96 → ℝ) : (∑ d : Fin 128, if hd : d.val < 96 then f ⟨d.val, hd⟩ else 0) = ∑ d : Fin 96, f d := by
  have h := Fin.sum_univ_add (a := 96) (b := 32) (fun d : Fin (96 + 32) => if hd : d.val < 96 then f ⟨d.val, hd⟩ else 0)
  refine h.trans ?_
  have h2 : ∀ x : Fin 32, (if hd : (Fin.natAdd 96 x).val < 96 then f ⟨(Fin.natAdd 96 x).val, hd⟩ else 0) = 0 := fun x =>
    dif_neg (by simp)
  have h1 : ∀ x : Fin 96, (if hd : (Fin.castAdd 32 x).val < 96 then f ⟨(Fin.castAdd 32 x).val, hd⟩ else 0) = f x := fun x =>
    dif_pos x.isLt
  simp only [h1, h2, Finset.sum_const_zero, add_zero]

/-- The kernel's score, over padded columns with the scale in the query, is the reference's over `log 2`. -/
theorem kscore (qr kr : S16x2304x8x96.Idx → ℝ) (b : Fin 16) (h : Fin 8) (i : Fin 2048) (j : Fin 2304) (n : Fin 2304) (hn : n.val = 256 + i.val)
    (L : Fin 128 → Fin 1024) (hL : ∀ d, (L d).val = h.val * 128 + d.val) :
    (∑ d : Fin 128, padded (fun y => ((qr y : ℝ) : EReal)) (ix3 b n (L d)) * (cs : EReal) * padded (fun y => ((kr y : ℝ) : EReal)) (ix3 b j (L d)))
      = ((a qr kr b h i j * (Real.log 2)⁻¹ : ℝ) : EReal) := by
  have e : ∀ d : Fin 128, padded (fun y => ((qr y : ℝ) : EReal)) (ix3 b n (L d)) * (cs : EReal) * padded (fun y => ((kr y : ℝ) : EReal)) (ix3 b j (L d))
      = ((if hd : d.val < 96 then (qr (ix4 b n h ⟨d.val, hd⟩) * cs * kr (ix4 b j h ⟨d.val, hd⟩)) else 0 : ℝ) : EReal) := by
    intro d
    rw [padded_at _ b n h d (L d) (hL d), padded_at _ b j h d (L d) (hL d)]
    split
    · simp only [EReal.coe_mul]
    · simp
  simp only [e]
  rw [← Cert.Softmax.coe_sum, sum_pad (fun d => qr (ix4 b n h d) * cs * kr (ix4 b j h d))]
  congr 1
  rw [show n = ⟨256 + i.val, by omega⟩ from Fin.ext hn]
  unfold a cs
  rw [Finset.sum_mul, Finset.sum_mul]
  exact Finset.sum_congr rfl fun d _ => by ring

/-- THE EQUATION: with finite queries and keys, the array the kernel leaves is the reference's result. -/
theorem result_eq (qr kr : S16x2304x8x96.Idx → ℝ) (v : S16x2304x8x64.Idx → EReal) :
    G (padded (fun y => ((qr y : ℝ) : EReal))) (padded (fun y => ((kr y : ℝ) : EReal))) (flat v)
      = REF (fun y => ((qr y : ℝ) : EReal)) (fun y => ((kr y : ℝ) : EReal)) v := by
  funext y
  have hy2 : (y 2).val < 512 := (y 2).isLt
  have hy1 : (y 1).val < 2048 := (y 1).isLt
  have hh : (y 2).val / 64 < 8 := by omega
  have hL : (y 2).val = (y 2).val / 64 * 64 + (y 2).val % 64 := by omega
  have ey : y = ix3 (y 0) (⟨(y 1).val, hy1⟩ : Fin 2048) (⟨(⟨(y 2).val / 64, hh⟩ : Fin 8).val * 64 + (⟨(y 2).val % 64, by omega⟩ : Fin 64).val, by dsimp only; omega⟩ : Fin 512) := by
    funext k
    match k with
    | ⟨0, _⟩ => rfl
    | ⟨1, _⟩ => rfl
    | ⟨2, _⟩ => exact Fin.ext hL
  have hr : REF (fun y => ((qr y : ℝ) : EReal)) (fun y => ((kr y : ℝ) : EReal)) v y = _ :=
    (congrArg (REF (fun y => ((qr y : ℝ) : EReal)) (fun y => ((kr y : ℝ) : EReal)) v) ey).trans (ref_at _ _ v (y 0) ⟨(y 1).val, hy1⟩ ⟨(y 2).val / 64, hh⟩ ⟨(y 2).val % 64, by omega⟩)
  rw [hr]
  unfold G wt
  simp only [kscore qr kr (y 0) ⟨(y 2).val / 64, hh⟩ ⟨(y 1).val, hy1⟩ _ ⟨256 + (y 1).val, by omega⟩ rfl
    (fun d => ⟨(y 2).val / 64 * 128 + d.val, by omega⟩) (fun d => rfl),
    flat_at v (y 0) _ ⟨(y 2).val / 64, hh⟩ ⟨(y 2).val % 64, by omega⟩ (y 2) hL]
  have hrow := Cert.Softmax.row (n := 2304) (by norm_num) (a qr kr (y 0) ⟨(y 2).val / 64, hh⟩ ⟨(y 1).val, hy1⟩) (fun j => v (ix4 (y 0) j ⟨(y 2).val / 64, hh⟩ ⟨(y 2).val % 64, by omega⟩))
  refine hrow.trans (Eq.symm ?_)
  have hs : (fun j => sc (fun y => ((qr y : ℝ) : EReal)) (fun y => ((kr y : ℝ) : EReal)) (y 0) ⟨(y 2).val / 64, hh⟩ ⟨(y 1).val, hy1⟩ j)
      = fun j => ((a qr kr (y 0) ⟨(y 2).val / 64, hh⟩ ⟨(y 1).val, hy1⟩ j : ℝ) : EReal) :=
    funext fun j => sc_eq qr kr (y 0) ⟨(y 2).val / 64, hh⟩ ⟨(y 1).val, hy1⟩ j
  exact congrArg (fun A : Fin 2304 → EReal => ∑ j, v (ix4 (y 0) j ⟨(y 2).val / 64, hh⟩ ⟨(y 2).val % 64, by omega⟩)
    * Ideal.div (Ideal.exp (A j - max ⊥ (Finset.univ.fold max ⊥ A))) (0 + ∑ k, Ideal.exp (A k - max ⊥ (Finset.univ.fold max ⊥ A)))) hs

/-- An extended real whose absolute value is below `⊤` is a real. -/
theorem real_of_abs_lt (x : EReal) (h : (max x (-x) : EReal) < ⊤) : ∃ r : ℝ, x = (r : EReal) := by
  induction x using EReal.rec with
  | bot => simp at h
  | top => simp at h
  | coe r => exact ⟨r, rfl⟩

/-- The pattern of infinity denotes `⊤`. -/
theorem ofBits_inf : Ideal.ofBits .f32 0x7F800000#32 = ⊤ := by simp [Ideal.ofBits, Ideal.ieee]

/-- An entry the precondition's comparison admits is a real. -/
theorem finite_of (x : FVec Ideal S16x2304x8x96 .f32) [Cert.Pre_qk_finite.Facts] (y : S16x2304x8x96.Idx)
   (h : cmpf .olt (Host.absf x) (broadcastInDim S16x2304x8x96 ![] Cert.Pre_qk_finite.Facts.bcast_S_S16x2304x8x96 (constant S_ .f32 0x7F800000#32)) y = 1#1) : ∃ r : ℝ, x y = (r : EReal) := by
  refine real_of_abs_lt _ ?_
  revert h
  pointwise
  rw [ofBits_inf]
  intro h
  have h' : (FloatOps.absf (x y) : EReal) < ⊤ := by
    by_contra hn
    rw [decide_eq_false hn] at h
    exact absurd h (by decide)
  exact h'

/-- The precondition makes every query and key a real. -/
theorem finite [Cert.Pre_qk_finite.Facts] (q k : FVec Ideal S16x2304x8x96 .f32) (v : FVec Ideal S16x2304x8x64 .f32)
    (h : Cert.Pre_qk_finite.fn (F := Ideal) q k v = fun _ => 1#1) :
    (∀ y, ∃ r : ℝ, q y = (r : EReal)) ∧ ∀ y, ∃ r : ℝ, k y = (r : EReal) := by
  have h0 := congrFun h ix0
  unfold Cert.Pre_qk_finite.fn at h0
  dsimp only at h0
  haveI : Subsingleton S_.Idx := ⟨fun p q => funext fun k => k.elim0⟩
  have h1 := IntOp.andi_eq_one.1 h0
  exact ⟨fun y => finite_of q y (Host.reduce_andi_all _ _ _ _ _ h1.1 y), fun y => finite_of k y (Host.reduce_andi_all _ _ _ _ _ h1.2 y)⟩

end Cert.Att

end
-- ==== Proof.AttClaim.lean ====
/-
  The attention call's claims: its frames, the named constant, and its value against the reference.
-/
module

public import proofs.«01_k».proof.Defs
public import proofs.«01_k».proof.Proof.Gen.Kernel.Frame
public import proofs.«01_k».proof.Proof.AttEq
public import Idealize.ShloMosaic.Lib.Quiescent

@[expose] public section

noncomputable section

namespace Cert.Att

open Idealize.ShloMosaic Idealize.ShloMosaic.TcCoe Idealize.SL.Sem

/-- The shape facts the precondition's function states. -/
theorem preFacts : Cert.Pre_qk_finite.Facts := ⟨by decide, by decide, by decide⟩

/-- The kernel's frame. -/
theorem frame_p : Cert.quiescent_Kernel (hKernel := Cert.Kernel.Gen.facts) := fun m ρ _ => Cert.Kernel.Gen.frame m ρ
/-- The idealized kernel's frame. -/
theorem frame_pi : Cert.quiescent_KernelIdeal (hKernelIdeal := Cert.KernelIdeal.Gen.facts) := fun m ρ _ => Cert.KernelIdeal.Gen.frame m ρ
/-- The idealized kernel's frame, under the precondition. -/
theorem frame_pi_pre : Cert.quiescent_KernelIdeal_pre_qk_finite (hKernelIdeal := Cert.KernelIdeal.Gen.facts) (hPre_qk_finite := preFacts) :=
  fun m ρ _ => Cert.KernelIdeal.Gen.frame m ρ

/-- The reference's frame, from its run. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
/-- The reference's frame, under the precondition. -/
theorem frame_ri_pre : Cert.quiescent_ReferenceIdeal_pre_qk_finite (hReferenceIdeal := Cert.ReferenceIdeal.Gen.facts) (hPre_qk_finite := preFacts) :=
  fun m ρ _ => frame_ri m ρ trivial

/-- The one named constant, the queries' scale, is the real it is named for. -/
theorem preserves : Cert.preserves_Kernel_KernelIdeal :=
  IdealRules.named_const.statement Cert.KernelIdeal.κ "scale_log2e" .f32 0x3E16C740#32 (((Real.sqrt 96)⁻¹ * (Real.log 2)⁻¹ : ℝ) : EReal) rfl

/-- THE VALUE: from finite queries and keys the kernel and the reference leave the same array. -/
theorem algebraic : Cert.algebraic_KernelIdeal_ReferenceIdeal_pre_qk_finite (hKernelIdeal := Cert.KernelIdeal.Gen.facts)
    (hReferenceIdeal := Cert.ReferenceIdeal.Gen.facts) (hPre_qk_finite := preFacts) := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2⟩ := hagree c
  haveI := preFacts
  obtain ⟨hq, hk⟩ := finite _ _ _ (hpre c)
  choose qr hqr using hq
  choose kr hkr using hk
  rw [h0, h1, h2, Cert.KernelIdeal.Att.final m c, Cert.KernelIdeal.Att.V_q, Cert.KernelIdeal.Att.V_k, Cert.KernelIdeal.Att.V_v]
  have eq0 := funext hqr
  have ek0 := funext hkr
  rw [eq0, ek0]
  exact (result_eq qr kr _).symm

end Cert.Att

end
-- ==== Proof.ProjOut.lean ====
/-
  What one grid point of the input projection leaves in its two output blocks, read at an index.
-/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- A row divided by the root of its mean square (the small constant added under the root). -/
def nrm (X : Fin 1024 → EReal) (k : Fin 1024) : EReal :=
  X k * Ideal.rsqrt (Ideal.div (∑ k, X k * X k) (Ideal.ofBits .f32 0x44800000#32) + Ideal.ofBits .f32 0x358637BD#32)

/-- A normalised row, scaled and shifted, multiplied with a column of the weights. -/
def pr (X A B W : Fin 1024 → EReal) : EReal := ∑ k, (nrm X k * A k + B k) * W k

/-- The product a grid point computes, at an index. -/
theorem p1_at (x0 : Vec Ideal S1x256x1024 .f32) (x1 x2 : Vec Ideal S1x1x1x1024 .f32) (x3 : Vec Ideal S1024x2432 .bf16) (r : Fin 256) (n : Fin 2432) :
    k0_pay1 x0 x1 x2 x3 (ix2 r n)
      = pr (fun k => x0 (ix3 0 r k)) (fun k => x1 (ix4 0 0 0 k)) (fun k => x2 (ix4 0 0 0 k)) (fun k => x3 (ix2 k n)) := by
  pointwise [k0_pay1]
  unfold pr nrm
  rfl

/-- The first output block: the first 1920 columns of the product. -/
theorem out4_at (x0 : Vec Ideal S1x256x1024 .f32) (x1 x2 : Vec Ideal S1x1x1x1024 .f32) (x3 : Vec Ideal S1024x2432 .bf16) (r : Fin 256) (n : Fin 1920) :
    out0_4 x0 x1 x2 x3 (ix3 0 r n)
      = pr (fun k => x0 (ix3 0 r k)) (fun k => x1 (ix4 0 0 0 k)) (fun k => x2 (ix4 0 0 0 k)) (fun k => x3 (ix2 k ⟨n.val, by omega⟩)) := by
  frame_out
  pointwise [k0_pay2]
  exact p1_at x0 x1 x2 x3 r _

/-- The second output block: the last 512 columns of the product. -/
theorem out5_at (x0 : Vec Ideal S1x256x1024 .f32) (x1 x2 : Vec Ideal S1x1x1x1024 .f32) (x3 : Vec Ideal S1024x2432 .bf16) (r : Fin 256) (n : Fin 512) :
    out0_5 x0 x1 x2 x3 (ix3 0 r n)
      = pr (fun k => x0 (ix3 0 r k)) (fun k => x1 (ix4 0 0 0 k)) (fun k => x2 (ix4 0 0 0 k)) (fun k => x3 (ix2 k ⟨1920 + n.val, by omega⟩)) := by
  frame_out
  pointwise [k0_pay3]
  exact p1_at x0 x1 x2 x3 r _

end Cert.Kernel3Ideal.Proj

end
-- ==== Proof.ProjArray.lean ====
/-
  The input projection's two result arrays after the run, as functions of the arrays the call reads.
-/
module

public import proofs.«01_k».proof.Proof.ProjOut
public import proofs.«01_k».proof.Proof.Gen.Kernel3Ideal.Value
public import Idealize.ShloMosaic.Lib.Claim

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The table row a row block takes: the first for the context's block, the second for the latent tokens'. -/
def part (s : Fin 9) : Fin 2 := if s.val = 0 then 0 else 1

/-- The table row of a token: the first for the 256 context tokens, the second for the latent tokens. -/
def side (j : Fin 2304) : Fin 2 := if j.val < 256 then 0 else 1

/-- The block every window takes at a grid point: batch row, row block. -/
theorem idx : ∀ t : Fin cfg0.N,
    win0_0.index t = ![t.val / 9, t.val % 9, 0] ∧ win0_1.index t = ![t.val / 9, if t.val % 9 = 0 then 0 else 1, 0, 0]
    ∧ win0_2.index t = ![t.val / 9, if t.val % 9 = 0 then 0 else 1, 0, 0] ∧ win0_3.index t = ![0, 0]
    ∧ win0_4.index t = ![t.val / 9, t.val % 9, 0] ∧ win0_5.index t = ![t.val / 9, t.val % 9, 0] :=
  (by decide +kernel : ∀ t : Fin grid0.N, _)

/-- There are 144 grid points. -/
theorem tlt (t : Fin cfg0.N) : t.val < 144 := t.isLt

/-- The tokens' block at a grid point, read off its array. -/
theorem blk0 (t : Fin cfg0.N) (W : S16x2304x1024.Idx → EReal) (a : Fin 256) (e : Fin 1024) :
    ((cfg0.win 0).blk t).view.read (Elt Ideal) W (ix3 0 a e) = W (ix3 ⟨t.val / 9, by have := tlt t; omega⟩ ⟨256 * (t.val % 9) + a.val, by omega⟩ e) := by
  show W _ = W _
  refine congrArg W (funext fun k => Fin.ext ?_)
  blk_simp [idx t]
  match k with
  | ⟨0, _⟩ => exact Nat.mul_one _
  | ⟨1, _⟩ => exact congrArg (· + a.val) (Nat.mul_comm _ 256)
  | ⟨2, _⟩ => exact (congrArg (· + e.val) (Nat.zero_mul _)).trans (Nat.zero_add _)

/-- The scales' block at a grid point, read off its array. -/
theorem blk1 (t : Fin cfg0.N) (W : S16x2x1x1024.Idx → EReal) (e : Fin 1024) :
    ((cfg0.win 1).blk t).view.read (Elt Ideal) W (ix4 0 0 0 e) = W (ix4 ⟨t.val / 9, by have := tlt t; omega⟩ (part ⟨t.val % 9, by omega⟩) 0 e) := by
  show W _ = W _
  refine congrArg W (funext fun k => Fin.ext ?_)
  blk_simp [idx t]
  match k with
  | ⟨0, _⟩ => exact Nat.mul_one _
  | ⟨1, _⟩ => unfold part; split <;> rfl
  | ⟨2, _⟩ => rfl
  | ⟨3, _⟩ => exact (congrArg (· + e.val) (Nat.zero_mul _)).trans (Nat.zero_add _)

/-- The shifts' block at a grid point, read off its array. -/
theorem blk2 (t : Fin cfg0.N) (W : S16x2x1x1024.Idx → EReal) (e : Fin 1024) :
    ((cfg0.win 2).blk t).view.read (Elt Ideal) W (ix4 0 0 0 e) = W (ix4 ⟨t.val / 9, by have := tlt t; omega⟩ (part ⟨t.val % 9, by omega⟩) 0 e) := by
  show W _ = W _
  refine congrArg W (funext fun k => Fin.ext ?_)
  blk_simp [idx t]
  match k with
  | ⟨0, _⟩ => exact Nat.mul_one _
  | ⟨1, _⟩ => unfold part; split <;> rfl
  | ⟨2, _⟩ => rfl
  | ⟨3, _⟩ => exact (congrArg (· + e.val) (Nat.zero_mul _)).trans (Nat.zero_add _)

/-- The weights at a grid point: the whole array. -/
theorem blk3 (t : Fin cfg0.N) (W : S1024x2432.Idx → EReal) (a : Fin 1024) (e : Fin 2432) :
    ((cfg0.win 3).blk t).view.read (Elt Ideal) W (ix2 a e) = W (ix2 a e) := by
  show W _ = W _
  refine congrArg W (funext fun k => Fin.ext ?_)
  blk_simp [idx t]
  match k with
  | ⟨0, _⟩ => exact (congrArg (· + a.val) (Nat.zero_mul _)).trans (Nat.zero_add _)
  | ⟨1, _⟩ => exact (congrArg (· + e.val) (Nat.zero_mul _)).trans (Nat.zero_add _)

/-- The array output window 4 leaves, as a function of the arrays the call reads. -/
def G4 (X : S16x2304x1024.Idx → EReal) (A B : S16x2x1x1024.Idx → EReal) (W : S1024x2432.Idx → EReal) : S16x2304x1920.Idx → EReal := fun i =>
  pr (fun k => X (ix3 (i 0) (i 1) k)) (fun k => A (ix4 (i 0) (side (i 1)) 0 k)) (fun k => B (ix4 (i 0) (side (i 1)) 0 k))
    (fun k => W (ix2 k ⟨(i 2).val, by have := (i 2).isLt; change _ < 1920 at this; omega⟩))

/-- The array output window 5 leaves, as a function of the arrays the call reads. -/
def G5 (X : S16x2304x1024.Idx → EReal) (A B : S16x2x1x1024.Idx → EReal) (W : S1024x2432.Idx → EReal) : S16x2304x512.Idx → EReal := fun i =>
  pr (fun k => X (ix3 (i 0) (i 1) k)) (fun k => A (ix4 (i 0) (side (i 1)) 0 k)) (fun k => B (ix4 (i 0) (side (i 1)) 0 k))
    (fun k => W (ix2 k ⟨1920 + (i 2).val, by have := (i 2).isLt; change _ < 512 at this; omega⟩))

/-- What a grid point leaves in output window 4 is its part of `G4`. -/
theorem out4_G (x0 : Vec Ideal S1x256x1024 .f32) (x1 x2 : Vec Ideal S1x1x1x1024 .f32) (x3 : Vec Ideal S1024x2432 .bf16)
    (X : S16x2304x1024.Idx → EReal) (A B : S16x2x1x1024.Idx → EReal) (W : S1024x2432.Idx → EReal) (b : Fin 16) (s : Fin 9)
    (h0 : ∀ a e, x0 (ix3 0 a e) = X (ix3 b ⟨256 * s.val + a.val, by omega⟩ e))
    (h1 : ∀ e, x1 (ix4 0 0 0 e) = A (ix4 b (part s) 0 e))
    (h2 : ∀ e, x2 (ix4 0 0 0 e) = B (ix4 b (part s) 0 e))
    (h3 : ∀ a e, x3 (ix2 a e) = W (ix2 a e))
    (r : Fin 256) (l : Fin 1920) (i : S16x2304x1920.Idx) (hi0 : i 0 = b) (hi1 : (i 1).val = s.val * 256 + r.val) (hi2 : (i 2).val = l.val) :
    out0_4 x0 x1 x2 x3 (ix3 0 r l) = G4 X A B W i := by
  have hs : part s = side (i 1) := by
    unfold part side
    by_cases h : s.val = 0
    · rw [if_pos h, if_pos (by rw [hi1]; omega)]
    · rw [if_neg h, if_neg (by rw [hi1]; omega)]
  rw [out4_at]
  simp only [h0, h1, h2, h3, hs, ← hi0]
  unfold G4
  rw [show (⟨256 * s.val + r.val, by omega⟩ : Fin 2304) = i 1 from Fin.ext (by rw [hi1]; dsimp only; omega)]
  simp only [hi2]

/-- THE ARRAY output window 4 leaves: `G4` of the four arrays the call reads. -/
theorem final4 (c : Dev nD) : (dats m 0 c).arrAt 4 cfg0.N = G4 (V m c main_v0) (V m c main_v16) (V m c main_v22) (V m c main_v2) := by
  refine (dats m 0 c).arrAt_eq_of_covers 4 _ (by decide +kernel) fun t _ y => ?_
  generalize hi : ((cfg0.win 4).blk t).view.emb y = i
  have hy0 : (y 0).val = 0 := Nat.lt_one_iff.mp (y 0).isLt
  have hi0 : (i 0).val = t.val / 9 * 1 + (y 0).val := by rw [← hi]; blk_simp [idx t]
  have hi1 : (i 1).val = t.val % 9 * 256 + (y 1).val := by rw [← hi]; blk_simp [idx t]
  have hi2 : (i 2).val = 0 * 1920 + (y 2).val := by rw [← hi]; blk_simp [idx t]
  have ht := tlt t
  rw [cast_eq]
  refine (congrFun (after0_4 m c t) _).trans ?_
  have e : (cfg0.win 4).xinj (cfg0.grid.coords t) y = (ix3 (0 : Fin 1) (⟨(y 1).val, (y 1).isLt⟩ : Fin 256) (⟨(y 2).val, (y 2).isLt⟩ : Fin 1920) : S1x256x1920.Idx) := by
    funext k
    match k with
    | ⟨0, _⟩ => exact Fin.ext hy0
    | ⟨1, _⟩ => exact Fin.ext rfl
    | ⟨2, _⟩ => exact Fin.ext rfl
  refine (congrArg (out0_4 (iblk m c 0 t) (iblk m c 1 t) (iblk m c 2 t) (iblk m c 3 t)) e).trans ?_
  refine out4_G _ _ _ _ (V m c main_v0) (V m c main_v16) (V m c main_v22) (V m c main_v2) ⟨t.val / 9, by omega⟩ ⟨t.val % 9, by omega⟩
    (fun a e => blk0 t (V m c (Pipeline.arrRef spec0 0)) a e) (fun e => blk1 t (V m c (Pipeline.arrRef spec0 1)) e)
    (fun e => blk2 t (V m c (Pipeline.arrRef spec0 2)) e) (fun a e => blk3 t (V m c (Pipeline.arrRef spec0 3)) a e)
    _ _ i (Fin.ext ?_) hi1 (hi2.trans (by rw [Nat.zero_mul, Nat.zero_add]))
  rw [hi0, hy0]; exact (Nat.mul_one _)

/-- What a grid point leaves in output window 5 is its part of `G5`. -/
theorem out5_G (x0 : Vec Ideal S1x256x1024 .f32) (x1 x2 : Vec Ideal S1x1x1x1024 .f32) (x3 : Vec Ideal S1024x2432 .bf16)
    (X : S16x2304x1024.Idx → EReal) (A B : S16x2x1x1024.Idx → EReal) (W : S1024x2432.Idx → EReal) (b : Fin 16) (s : Fin 9)
    (h0 : ∀ a e, x0 (ix3 0 a e) = X (ix3 b ⟨256 * s.val + a.val, by omega⟩ e))
    (h1 : ∀ e, x1 (ix4 0 0 0 e) = A (ix4 b (part s) 0 e))
    (h2 : ∀ e, x2 (ix4 0 0 0 e) = B (ix4 b (part s) 0 e))
    (h3 : ∀ a e, x3 (ix2 a e) = W (ix2 a e))
    (r : Fin 256) (l : Fin 512) (i : S16x2304x512.Idx) (hi0 : i 0 = b) (hi1 : (i 1).val = s.val * 256 + r.val) (hi2 : (i 2).val = l.val) :
    out0_5 x0 x1 x2 x3 (ix3 0 r l) = G5 X A B W i := by
  have hs : part s = side (i 1) := by
    unfold part side
    by_cases h : s.val = 0
    · rw [if_pos h, if_pos (by rw [hi1]; omega)]
    · rw [if_neg h, if_neg (by rw [hi1]; omega)]
  rw [out5_at]
  simp only [h0, h1, h2, h3, hs, ← hi0]
  unfold G5
  rw [show (⟨256 * s.val + r.val, by omega⟩ : Fin 2304) = i 1 from Fin.ext (by rw [hi1]; dsimp only; omega)]
  simp only [hi2]

/-- THE ARRAY output window 5 leaves: `G5` of the four arrays the call reads. -/
theorem final5 (c : Dev nD) : (dats m 0 c).arrAt 5 cfg0.N = G5 (V m c main_v0) (V m c main_v16) (V m c main_v22) (V m c main_v2) := by
  refine (dats m 0 c).arrAt_eq_of_covers 5 _ (by decide +kernel) fun t _ y => ?_
  generalize hi : ((cfg0.win 5).blk t).view.emb y = i
  have hy0 : (y 0).val = 0 := Nat.lt_one_iff.mp (y 0).isLt
  have hi0 : (i 0).val = t.val / 9 * 1 + (y 0).val := by rw [← hi]; blk_simp [idx t]
  have hi1 : (i 1).val = t.val % 9 * 256 + (y 1).val := by rw [← hi]; blk_simp [idx t]
  have hi2 : (i 2).val = 0 * 512 + (y 2).val := by rw [← hi]; blk_simp [idx t]
  have ht := tlt t
  rw [cast_eq]
  refine (congrFun (after0_5 m c t) _).trans ?_
  have e : (cfg0.win 5).xinj (cfg0.grid.coords t) y = (ix3 (0 : Fin 1) (⟨(y 1).val, (y 1).isLt⟩ : Fin 256) (⟨(y 2).val, (y 2).isLt⟩ : Fin 512) : S1x256x512.Idx) := by
    funext k
    match k with
    | ⟨0, _⟩ => exact Fin.ext hy0
    | ⟨1, _⟩ => exact Fin.ext rfl
    | ⟨2, _⟩ => exact Fin.ext rfl
  refine (congrArg (out0_5 (iblk m c 0 t) (iblk m c 1 t) (iblk m c 2 t) (iblk m c 3 t)) e).trans ?_
  refine out5_G _ _ _ _ (V m c main_v0) (V m c main_v16) (V m c main_v22) (V m c main_v2) ⟨t.val / 9, by omega⟩ ⟨t.val % 9, by omega⟩
    (fun a e => blk0 t (V m c (Pipeline.arrRef spec0 0)) a e) (fun e => blk1 t (V m c (Pipeline.arrRef spec0 1)) e)
    (fun e => blk2 t (V m c (Pipeline.arrRef spec0 2)) e) (fun a e => blk3 t (V m c (Pipeline.arrRef spec0 3)) a e)
    _ _ i (Fin.ext ?_) hi1 (hi2.trans (by rw [Nat.zero_mul, Nat.zero_add]))
  rw [hi0, hy0]; exact (Nat.mul_one _)

end Cert.Kernel3Ideal.Proj

end
-- ==== Proof.ProjHost.lean ====
/-
  The arrays the input projection reads, in terms of the argument arrays.
-/
module

public import proofs.«01_k».proof.Proof.ProjArray
public import Idealize.ShloMosaic.Lib.KernelVsHost

@[expose] public section

set_option maxRecDepth 16384

noncomputable section

namespace Cert.Kernel3Ideal.Proj

open Cert.Kernel3Ideal Cert.Kernel3Ideal.Gen Idealize.ShloMosaic Idealize.ShloMosaic.TcCoe Idealize.SL.Sem

variable (m : (ℓ : Loc nD τ sig) → Buf (Elt Ideal) ℓ)

/-- A change of float format changes no value. -/
theorem cast_id {s : Shape} (x : FVec Ideal s .f32) : (truncf .bf16 x bitsLt_bf16_f32 : FVec Ideal s .bf16) = x := rfl

/-- The context's tokens above the latent tokens. -/
def tok (x : S16x2048x1024.Idx → EReal) (ctx : S16x256x1024.Idx → EReal) : S16x2304x1024.Idx → EReal :=
  concatenate S16x2304x1024 1 [⟨S16x256x1024, ctx⟩, ⟨S16x2048x1024, x⟩] concatenates_S16x256x1024_S16x2048x1024_S16x2304x1024_d1

/-- The weights, padded with zero columns. -/
def wpad (w : S1024x2336.Idx → EReal) : S1024x2432.Idx → EReal :=
  pad S1024x2432 ![0, 0] ![0, 96] ![0, 0] (w : FVec Ideal S1024x2336 .f32) (sitofp (F := Ideal) .f32 (constantI S_ 32 0#32)) pads_S1024x2336_S1024x2432_000_0960 h_S_

/-- The padded weights: the weights, and zero beside them. -/
theorem wpad_at (w : S1024x2336.Idx → EReal) (k : Fin 1024) (n : Fin 2432) :
    wpad w (ix2 k n) = if h : n.val < 2336 then w (ix2 k ⟨n.val, h⟩) else 0 := by
  unfold wpad
  pointwise
  have z : (FloatOps.sitofp (F := Ideal) .f32 0#32 : EReal) = 0 := sitofp_zero
  rw [z]

/-- The scales' table: the norm's gain times one plus the context's scale, then times one plus the batch row's. -/
def scT (g : S1024.Idx → EReal) (sc : S16x1024.Idx → EReal) (scc : S1024.Idx → EReal) : S16x2x1x1024.Idx → EReal :=
  broadcastInDim S16x2x1x1024 ![0, 1, 3] bcast_S16x2x1024_S16x2x1x1024_0_1_3 (concatenate S16x2x1024 1
    [⟨S16x1x1024, broadcastInDim S16x1x1024 ![0, 2] bcast_S16x1024_S16x1x1024_0_2 (broadcastInDim S16x1024 ![0, 1] bcast_S1x1024_S16x1024_0_1 (broadcastInDim S1x1024 ![1] bcast_S1024_S1x1024_1
        (mulf (F := Ideal) (φ := .f32) (addf (F := Ideal) (φ := .f32) (broadcastInDim S1024 ![] bcast_S_S1024 (constant (F := Ideal) S_ .f32 0x3F800000#32)) scc) g)))⟩,
     ⟨S16x1x1024, broadcastInDim S16x1x1024 ![0, 2] bcast_S16x1024_S16x1x1024_0_2
        (mulf (F := Ideal) (φ := .f32) (addf (F := Ideal) (φ := .f32) (broadcastInDim S16x1024 ![] bcast_S_S16x1024 (constant (F := Ideal) S_ .f32 0x3F800000#32)) sc)
          (broadcastInDim S16x1024 ![0, 1] bcast_S1x1024_S16x1024_0_1 (broadcastInDim S1x1024 ![1] bcast_S1024_S1x1024_1 g)))⟩]
    concatenates_S16x1x1024_S16x1x1024_S16x2x1024_d1)

/-- The shifts' table: the context's shift, then the batch row's. -/
def shT (sh : S16x1024.Idx → EReal) (shc : S1024.Idx → EReal) : S16x2x1x1024.Idx → EReal :=
  broadcastInDim S16x2x1x1024 ![0, 1, 3] bcast_S16x2x1024_S16x2x1x1024_0_1_3 (concatenate S16x2x1024 1
    [⟨S16x1x1024, broadcastInDim S16x1x1024 ![0, 2] bcast_S16x1024_S16x1x1024_0_2 (broadcastInDim S16x1024 ![0, 1] bcast_S1x1024_S16x1024_0_1 (broadcastInDim S1x1024 ![1] bcast_S1024_S1x1024_1 shc))⟩,
     ⟨S16x1x1024, broadcastInDim S16x1x1024 ![0, 2] bcast_S16x1024_S16x1x1024_0_2 sh⟩]
    concatenates_S16x1x1024_S16x1x1024_S16x2x1024_d1)

/-- A token of the stacked array: the context's below 256, a latent one from there on. -/
theorem tok_at (x : S16x2048x1024.Idx → EReal) (ctx : S16x256x1024.Idx → EReal) (b : Fin 16) (j : Fin 2304) (k : Fin 1024) :
    tok x ctx (ix3 b j k) = if h : j.val < 256 then ctx (ix3 b ⟨j.val, h⟩ k) else x (ix3 b ⟨j.val - 256, by omega⟩ k) := by
  unfold tok
  pointwise

/-- The scales' table at an index. -/
theorem scT_at (g : S1024.Idx → EReal) (sc : S16x1024.Idx → EReal) (scc : S1024.Idx → EReal) (b : Fin 16) (p : Fin 2) (k : Fin 1024) :
    scT g sc scc (ix4 b p 0 k) = if _h : p.val < 1 then (Ideal.ofBits .f32 0x3F800000#32 + scc (ix1 k)) * g (ix1 k) else (Ideal.ofBits .f32 0x3F800000#32 + sc (ix2 b k)) * g (ix1 k) := by
  unfold scT
  pointwise

/-- The shifts' table at an index. -/
theorem shT_at (sh : S16x1024.Idx → EReal) (shc : S1024.Idx → EReal) (b : Fin 16) (p : Fin 2) (k : Fin 1024) :
    shT sh shc (ix4 b p 0 k) = if _h : p.val < 1 then shc (ix1 k) else sh (ix2 b k) := by
  unfold shT
  pointwise

/-- The tokens' array. -/
theorem V_x (c : Dev nD) : V m c main_v0 = tok (m ((c : Thread nD τ).loc main_arg0)) (m ((c : Thread nD τ).loc main_arg1)) := by
  unfold V
  simp only [List.flatten_cons, List.flatten_nil, List.append_nil, List.cons_append, List.nil_append]
  after_results
  refine funext fun i => ?_
  unfold tok
  rfl

/-- The weights' array. -/
theorem V_w (c : Dev nD) : V m c main_v2 = wpad (m ((c : Thread nD τ).loc main_arg7)) := by
  unfold V
  simp only [List.flatten_cons, List.flatten_nil, List.append_nil, List.cons_append, List.nil_append]
  after_results
  refine (cast_id _).trans (funext fun i => ?_)
  unfold wpad
  rfl

/-- The scales' array. -/
theorem V_sc (c : Dev nD) : V m c main_v16 = scT (m ((c : Thread nD τ).loc main_arg2)) (m ((c : Thread nD τ).loc main_arg4)) (m ((c : Thread nD τ).loc main_arg6)) := by
  unfold V
  simp only [List.flatten_cons, List.flatten_nil, List.append_nil, List.cons_append, List.nil_append]
  after_results
  refine funext fun i => ?_
  unfold scT
  rfl

/-- The shifts' array. -/
theorem V_sh (c : Dev nD) : V m c main_v22 = shT (m ((c : Thread nD τ).loc main_arg3)) (m ((c : Thread nD τ).loc main_arg5)) := by
  unfold V
  simp only [List.flatten_cons, List.flatten_nil, List.append_nil, List.cons_append, List.nil_append]
  after_results
  refine funext fun i => ?_
  unfold shT
  rfl

end Cert.Kernel3Ideal.Proj

end
-- ==== Proof.ProjRef.lean ====
/-
  The reference's input projection read at an index.
-/
module

public import proofs.«01_k».proof.Proof.Gen.Reference3Ideal.Run
public import proofs.«01_k».proof.Proof.ProjOut
public import Idealize.ShloMosaic.Lib.Pointwise
public import Idealize.ShloMosaic.Lib.KernelVsHost

@[expose] public section

set_option maxRecDepth 16384

noncomputable section

namespace Cert.Reference3Ideal.Proj

open Cert.Reference3Ideal Cert.Reference3Ideal.Gen Idealize.ShloMosaic Idealize.ShloMosaic.TcCoe Idealize.SL.Sem
open Cert.Kernel3Ideal.Proj (nrm)

/-- The context's tokens, normalised. -/
def normC (ctx : FVec Ideal S16x256x1024 .f32) : FVec Ideal S16x256x1024 .f32 :=
  mulf ctx (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf ctx ctx) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))

/-- The latent tokens, normalised. -/
def normX (x : FVec Ideal S16x2048x1024 .f32) : FVec Ideal S16x2048x1024 .f32 :=
  mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))

/-- The context's tokens, normalised, scaled and shifted. -/
def actC (ctx : FVec Ideal S16x256x1024 .f32) (g : FVec Ideal S1024 .f32) (shc : FVec Ideal S1024 .f32) (scc : FVec Ideal S1024 .f32) : FVec Ideal S16x256x1024 .f32 :=
  addf (mulf (mulf (normC ctx) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) scc)))) (broadcastInDim S16x256x1024 ![0, 1, 2] bcast_S1x1x1024_S16x256x1024_0_1_2 (broadcastInDim S1x1x1024 ![2] bcast_S1024_S1x1x1024_2 shc))

/-- The latent tokens, normalised, scaled and shifted. -/
def actX (x : FVec Ideal S16x2048x1024 .f32) (g : FVec Ideal S1024 .f32) (sh : FVec Ideal S16x1024 .f32) (sc : FVec Ideal S16x1024 .f32) : FVec Ideal S16x2048x1024 .f32 :=
  addf (mulf (mulf (normX x) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 sc)))) (broadcastInDim S16x2048x1024 ![0, 1, 2] bcast_S16x1x1024_S16x2048x1024_0_1_2 (broadcastInDim S16x1x1024 ![0, 2] bcast_S16x1024_S16x1x1024_0_2 sh))

/-- The context's and the latent tokens' projections, one above the other. -/
def P (x : FVec Ideal S16x2048x1024 .f32) (ctx : FVec Ideal S16x256x1024 .f32) (g : FVec Ideal S1024 .f32) (sh : FVec Ideal S16x1024 .f32) (sc : FVec Ideal S16x1024 .f32) (shc : FVec Ideal S1024 .f32) (scc : FVec Ideal S1024 .f32) (w : FVec Ideal S1024x2336 .f32) : FVec Ideal S16x2304x2336 .f32 :=
  concatenate S16x2304x2336 1 [⟨S16x256x2336, (Host.dotGeneral dot_S16x256x1024_S1024x2336_S16x256x2336_2_0_01_1_n_n none (actC ctx g shc scc) w)⟩, ⟨S16x2048x2336, (Host.dotGeneral dot_S16x2048x1024_S1024x2336_S16x2048x2336_2_0_01_1_n_n none (actX x g sh sc) w)⟩] concatenates_S16x256x2336_S16x2048x2336_S16x2304x2336_d1

/-- The reference's first result. -/
def REF0 (x : FVec Ideal S16x2048x1024 .f32) (ctx : FVec Ideal S16x256x1024 .f32) (g : FVec Ideal S1024 .f32) (sh : FVec Ideal S16x1024 .f32) (sc : FVec Ideal S16x1024 .f32) (shc : FVec Ideal S1024 .f32) (scc : FVec Ideal S1024 .f32) (w : FVec Ideal S1024x2336 .f32) : FVec Ideal S16x2304x1920 .f32 :=
  extractStridedSlice S16x2304x1920 ![0, 0, 0] (P x ctx g sh sc shc scc w) slices_S16x2304x2336_S16x2304x1920_0_0_0

/-- The reference's second result. -/
def REF1 (x : FVec Ideal S16x2048x1024 .f32) (ctx : FVec Ideal S16x256x1024 .f32) (g : FVec Ideal S1024 .f32) (sh : FVec Ideal S16x1024 .f32) (sc : FVec Ideal S16x1024 .f32) (shc : FVec Ideal S1024 .f32) (scc : FVec Ideal S1024 .f32) (w : FVec Ideal S1024x2336 .f32) : FVec Ideal S16x2304x512 .f32 :=
  pad S16x2304x512 ![0, 0, 0] ![0, 0, 96] ![0, 0, 0] (extractStridedSlice S16x2304x416 ![0, 0, 1920] (P x ctx g sh sc shc scc w) slices_S16x2304x2336_S16x2304x416_0_0_1920) (sitofp .f32 (constantI S_ 32 0#32)) pads_S16x2304x416_S16x2304x512_000_000_0960 h_S_

/-- The context's normalised tokens at an index. -/
theorem normC_at (ctx : FVec Ideal S16x256x1024 .f32) (b : Fin 16) (j : Fin 256) (k : Fin 1024) :
    normC ctx (ix3 b j k) = nrm (fun k => ctx (ix3 b j k)) k := by
  unfold normC
  pointwise
  unfold nrm
  simp only [zero_add]
  try rfl

/-- The latent normalised tokens at an index. -/
theorem normX_at (x : FVec Ideal S16x2048x1024 .f32) (b : Fin 16) (j : Fin 2048) (k : Fin 1024) :
    normX x (ix3 b j k) = nrm (fun k => x (ix3 b j k)) k := by
  unfold normX
  pointwise
  unfold nrm
  simp only [zero_add]
  try rfl

/-- The context's scaled and shifted tokens at an index. -/
theorem actC_at (ctx : FVec Ideal S16x256x1024 .f32) (g : FVec Ideal S1024 .f32) (shc : FVec Ideal S1024 .f32) (scc : FVec Ideal S1024 .f32) (b : Fin 16) (j : Fin 256) (k : Fin 1024) :
    actC ctx g shc scc (ix3 b j k) = nrm (fun k => ctx (ix3 b j k)) k * g (ix1 k) * (Ideal.ofBits .f32 0x3F800000#32 + scc (ix1 k)) + shc (ix1 k) := by
  rw [← normC_at]
  unfold actC
  generalize normC ctx = y
  pointwise

/-- The latent scaled and shifted tokens at an index. -/
theorem actX_at (x : FVec Ideal S16x2048x1024 .f32) (g : FVec Ideal S1024 .f32) (sh : FVec Ideal S16x1024 .f32) (sc : FVec Ideal S16x1024 .f32) (b : Fin 16) (j : Fin 2048) (k : Fin 1024) :
    actX x g sh sc (ix3 b j k) = nrm (fun k => x (ix3 b j k)) k * g (ix1 k) * (Ideal.ofBits .f32 0x3F800000#32 + sc (ix2 b k)) + sh (ix2 b k) := by
  rw [← normX_at]
  unfold actX
  generalize normX x = y
  pointwise

/-- The stacked projections at an index. -/
theorem P_at (x : FVec Ideal S16x2048x1024 .f32) (ctx : FVec Ideal S16x256x1024 .f32) (g : FVec Ideal S1024 .f32) (sh : FVec Ideal S16x1024 .f32) (sc : FVec Ideal S16x1024 .f32) (shc : FVec Ideal S1024 .f32) (scc : FVec Ideal S1024 .f32) (w : FVec Ideal S1024x2336 .f32) (b : Fin 16) (j : Fin 2304) (n : Fin 2336) :
    P x ctx g sh sc shc scc w (ix3 b j n) = if h : j.val < 256 then ∑ k, (actC ctx g shc scc (ix3 b ⟨j.val, h⟩ k) : EReal) * w (ix2 k n)
      else ∑ k, (actX x g sh sc (ix3 b ⟨j.val - 256, by omega⟩ k) : EReal) * w (ix2 k n) := by
  unfold P
  generalize actC ctx g shc scc = y
  generalize actX x g sh sc = z
  pointwise

/-- The first result: the first 1920 columns. -/
theorem REF0_at (x : FVec Ideal S16x2048x1024 .f32) (ctx : FVec Ideal S16x256x1024 .f32) (g : FVec Ideal S1024 .f32) (sh : FVec Ideal S16x1024 .f32) (sc : FVec Ideal S16x1024 .f32) (shc : FVec Ideal S1024 .f32) (scc : FVec Ideal S1024 .f32) (w : FVec Ideal S1024x2336 .f32) (b : Fin 16) (j : Fin 2304) (n : Fin 1920) :
    REF0 x ctx g sh sc shc scc w (ix3 b j n) = P x ctx g sh sc shc scc w (ix3 b j ⟨n.val, by omega⟩) := by
  unfold REF0
  generalize P x ctx g sh sc shc scc w = y
  pointwise

/-- The second result: the last 416 columns, and zero beside them. -/
theorem REF1_at (x : FVec Ideal S16x2048x1024 .f32) (ctx : FVec Ideal S16x256x1024 .f32) (g : FVec Ideal S1024 .f32) (sh : FVec Ideal S16x1024 .f32) (sc : FVec Ideal S16x1024 .f32) (shc : FVec Ideal S1024 .f32) (scc : FVec Ideal S1024 .f32) (w : FVec Ideal S1024x2336 .f32) (b : Fin 16) (j : Fin 2304) (n : Fin 512) :
    REF1 x ctx g sh sc shc scc w (ix3 b j n) = if h : n.val < 416 then P x ctx g sh sc shc scc w (ix3 b j ⟨1920 + n.val, by omega⟩) else 0 := by
  unfold REF1
  generalize P x ctx g sh sc shc scc w = y
  pointwise
  have z : (FloatOps.sitofp (F := Ideal) .f32 0#32 : EReal) = 0 := sitofp_zero
  rw [z]

end Cert.Reference3Ideal.Proj

end
-- ==== Proof.ProjEq.lean ====
/-
  The input projection and the reference's agree, for any arguments.
-/
module

public import proofs.«01_k».proof.Proof.ProjHost
public import proofs.«01_k».proof.Proof.ProjRef

@[expose] public section

set_option maxRecDepth 16384

noncomputable section

namespace Cert.Proj

open Idealize.ShloMosaic Idealize.ShloMosaic.TcCoe Idealize.SL.Sem
open Cert.Kernel3Ideal (S16x2048x1024 S16x256x1024 S1024 S16x1024 S1024x2336 S16x2304x1920 S16x2304x512)
open Cert.Kernel3Ideal.Proj
open Cert.Reference3Ideal.Proj (REF0 REF1 REF0_at REF1_at P P_at actC_at actX_at)

/-- A column of the kernel's product is the reference's column with the same weights. -/
theorem col (x : S16x2048x1024.Idx → EReal) (ctx : S16x256x1024.Idx → EReal) (g : S1024.Idx → EReal) (sh : S16x1024.Idx → EReal) (sc : S16x1024.Idx → EReal) (shc : S1024.Idx → EReal) (scc : S1024.Idx → EReal) (w : S1024x2336.Idx → EReal) (b : Fin 16) (j : Fin 2304) (n : Fin 2432) (n' : Fin 2336) (hn : n.val = n'.val) :
    pr (fun k => tok x ctx (ix3 b j k)) (fun k => scT g sc scc (ix4 b (side j) 0 k)) (fun k => shT sh shc (ix4 b (side j) 0 k)) (fun k => wpad w (ix2 k n))
      = P x ctx g sh sc shc scc w (ix3 b j n') := by
  have hw : ∀ k, wpad w (ix2 k n) = w (ix2 k n') := fun k => by
    have hlt : n.val < 2336 := by omega
    rw [wpad_at, dif_pos hlt]
    exact congrArg w (congrArg (ix2 k) (Fin.ext hn))
  rw [P_at]
  unfold pr
  simp only [hw, tok_at, scT_at, shT_at, actC_at, actX_at]
  by_cases hj : j.val < 256
  · have hs : side j = 0 := if_pos hj
    simp only [hs, hj, Fin.val_zero, Nat.zero_lt_one, ↓reduceDIte]
    exact Finset.sum_congr rfl fun k _ => by rw [mul_comm (_ + _) (g (ix1 k)), mul_assoc]
  · have hs : side j = 1 := if_neg hj
    simp only [hs, hj, Fin.val_one, Nat.lt_irrefl, ↓reduceDIte]
    exact Finset.sum_congr rfl fun k _ => by rw [mul_comm (_ + _) (g (ix1 k)), mul_assoc]

/-- A padded column of the kernel's product is zero. -/
theorem col_pad (x : S16x2048x1024.Idx → EReal) (ctx : S16x256x1024.Idx → EReal) (g : S1024.Idx → EReal) (sh : S16x1024.Idx → EReal) (sc : S16x1024.Idx → EReal) (shc : S1024.Idx → EReal) (scc : S1024.Idx → EReal) (w : S1024x2336.Idx → EReal) (X A B : Fin 1024 → EReal) (n : Fin 2432) (hn : ¬ n.val < 2336) : pr X A B (fun k => wpad w (ix2 k n)) = 0 := by
  have hw : ∀ k, wpad w (ix2 k n) = 0 := fun k => by rw [wpad_at, dif_neg hn]
  unfold pr
  simp only [hw, mul_zero, Finset.sum_const_zero]

/-- THE FIRST RESULT is the reference's. -/
theorem result0 (x : S16x2048x1024.Idx → EReal) (ctx : S16x256x1024.Idx → EReal) (g : S1024.Idx → EReal) (sh : S16x1024.Idx → EReal) (sc : S16x1024.Idx → EReal) (shc : S1024.Idx → EReal) (scc : S1024.Idx → EReal) (w : S1024x2336.Idx → EReal) : G4 (tok x ctx) (scT g sc scc) (shT sh shc) (wpad w) = REF0 x ctx g sh sc shc scc w := by
  funext y
  have ey : y = ix3 (y 0) (y 1) (y 2) := by
    funext k
    match k with
    | ⟨0, _⟩ => rfl
    | ⟨1, _⟩ => rfl
    | ⟨2, _⟩ => rfl
  refine Eq.trans ?_ ((REF0_at x ctx g sh sc shc scc w (y 0) (y 1) (y 2)).symm.trans (congrArg (REF0 x ctx g sh sc shc scc w) ey.symm))
  exact col x ctx g sh sc shc scc w (y 0) (y 1) _ _ rfl

/-- THE SECOND RESULT is the reference's. -/
theorem result1 (x : S16x2048x1024.Idx → EReal) (ctx : S16x256x1024.Idx → EReal) (g : S1024.Idx → EReal) (sh : S16x1024.Idx → EReal) (sc : S16x1024.Idx → EReal) (shc : S1024.Idx → EReal) (scc : S1024.Idx → EReal) (w : S1024x2336.Idx → EReal) : G5 (tok x ctx) (scT g sc scc) (shT sh shc) (wpad w) = REF1 x ctx g sh sc shc scc w := by
  funext y
  have ey : y = ix3 (y 0) (y 1) (y 2) := by
    funext k
    match k with
    | ⟨0, _⟩ => rfl
    | ⟨1, _⟩ => rfl
    | ⟨2, _⟩ => rfl
  refine Eq.trans ?_ ((REF1_at x ctx g sh sc shc scc w (y 0) (y 1) (y 2)).symm.trans (congrArg (REF1 x ctx g sh sc shc scc w) ey.symm))
  split
  · exact col x ctx g sh sc shc scc w (y 0) (y 1) _ _ rfl
  · rename_i h
    exact col_pad x ctx g sh sc shc scc w _ _ _ _ (by dsimp only; omega)

end Cert.Proj

end
-- ==== Proof.ProjClaim.lean ====
/-
  The input projection's claims: its frames, and its value against the reference.
-/
module

public import proofs.«01_k».proof.Defs
public import proofs.«01_k».proof.Proof.Gen.Kernel3.Frame
public import proofs.«01_k».proof.Proof.ProjEq
public import Idealize.ShloMosaic.Lib.Quiescent

@[expose] public section

noncomputable section

namespace Cert.Proj

open Idealize.ShloMosaic Idealize.ShloMosaic.TcCoe Idealize.SL.Sem

/-- The kernel's frame. -/
theorem frame_p : Cert.quiescent_Kernel3 (hKernel3 := Cert.Kernel3.Gen.facts) := fun m ρ _ => Cert.Kernel3.Gen.frame m ρ
/-- The idealized kernel's frame. -/
theorem frame_pi : Cert.quiescent_Kernel3Ideal (hKernel3Ideal := Cert.Kernel3Ideal.Gen.facts) := fun m ρ _ => Cert.Kernel3Ideal.Gen.frame m ρ

/-- The reference's frame, from its run. -/
theorem frame_ri : Cert.quiescent_Reference3Ideal (hReference3Ideal := Cert.Reference3Ideal.Gen.facts) := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- No constant is named: the idealized kernel is the kernel. -/
theorem preserves : Cert.preserves_Kernel3_Kernel3Ideal := trivial

/-- THE VALUE: the kernel and the reference leave the same two arrays. -/
theorem algebraic : Cert.algebraic_Kernel3Ideal_Reference3Ideal (hKernel3Ideal := Cert.Kernel3Ideal.Gen.facts)
    (hReference3Ideal := Cert.Reference3Ideal.Gen.facts) := by
  intro m ρ m' ρ' hpre hagree
  refine ⟨_, _, Cert.Kernel3Ideal.Value.run_blocks m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨h0, h1, h2, h3, h4, h5, h6, h7⟩ := hagree c
    rw [h0, h1, h2, h3, h4, h5, h6, h7, Cert.Kernel3Ideal.Proj.final4 m c, Cert.Kernel3Ideal.Proj.V_x, Cert.Kernel3Ideal.Proj.V_sc, Cert.Kernel3Ideal.Proj.V_sh, Cert.Kernel3Ideal.Proj.V_w]
    exact (result0 _ _ _ _ _ _ _ _).symm
  · obtain ⟨h0, h1, h2, h3, h4, h5, h6, h7⟩ := hagree c
    rw [h0, h1, h2, h3, h4, h5, h6, h7, Cert.Kernel3Ideal.Proj.final5 m c, Cert.Kernel3Ideal.Proj.V_x, Cert.Kernel3Ideal.Proj.V_sc, Cert.Kernel3Ideal.Proj.V_sh, Cert.Kernel3Ideal.Proj.V_w]
    exact (result1 _ _ _ _ _ _ _ _).symm

end Cert.Proj

end
-- ==== Proof.MoeSetup.lean ====
/-
  The experts' call up to its launch: the host operations before it, the prefetched tables, the windows' blocks.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the call starts: the launch contents after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

/-- No operation of this stretch takes a fresh buffer. -/
theorem hostOps0_fresh : (hostOps0 : List (HloOp τ sig (Elt F))).Forall fun op => op.fresh = ∅ := by
  simp only [List.Forall]; repeat' constructor
/-- No operation of this stretch takes a fresh buffer. -/
theorem hostOps0_1_fresh : (hostOps0_1 : List (HloOp τ sig (Elt F))).Forall fun op => op.fresh = ∅ := by
  simp only [List.Forall]; repeat' constructor
/-- No operation of this stretch takes a fresh buffer. -/
theorem hostOps0_2_fresh : (hostOps0_2 : List (HloOp τ sig (Elt F))).Forall fun op => op.fresh = ∅ := by
  simp only [List.Forall]; repeat' constructor
/-- No operation of this stretch takes a fresh buffer. -/
theorem hostOps0_3_fresh : (hostOps0_3 : List (HloOp τ sig (Elt F))).Forall fun op => op.fresh = ∅ := by
  simp only [List.Forall]; repeat' constructor
/-- No operation of this stretch takes a fresh buffer. -/
theorem hostOps0_4_fresh : (hostOps0_4 : List (HloOp τ sig (Elt F))).Forall fun op => op.fresh = ∅ := by
  simp only [List.Forall]; repeat' constructor
/-- No operation of this stretch takes a fresh buffer. -/
theorem hostOps0_5_fresh : (hostOps0_5 : List (HloOp τ sig (Elt F))).Forall fun op => op.fresh = ∅ := by
  simp only [List.Forall]; repeat' constructor
/-- No operation of this stretch takes a fresh buffer. -/
theorem hostOps0_6_fresh : (hostOps0_6 : List (HloOp τ sig (Elt F))).Forall fun op => op.fresh = ∅ := by
  simp only [List.Forall]; repeat' constructor
/-- No operation of this stretch takes a fresh buffer. -/
theorem hostOps0_7_fresh : (hostOps0_7 : List (HloOp τ sig (Elt F))).Forall fun op => op.fresh = ∅ := by
  simp only [List.Forall]; repeat' constructor
/-- No operation of this stretch takes a fresh buffer. -/
theorem hostOps0_8_fresh : (hostOps0_8 : List (HloOp τ sig (Elt F))).Forall fun op => op.fresh = ∅ := by
  simp only [List.Forall]; repeat' constructor
/-- No operation of this stretch takes a fresh buffer. -/
theorem hostOps0_9_fresh : (hostOps0_9 : List (HloOp τ sig (Elt F))).Forall fun op => op.fresh = ∅ := by
  simp only [List.Forall]; repeat' constructor
/-- No operation of this stretch takes a fresh buffer. -/
theorem hostOps0_10_fresh : (hostOps0_10 : List (HloOp τ sig (Elt F))).Forall fun op => op.fresh = ∅ := by
  simp only [List.Forall]; repeat' constructor
/-- No operation of this stretch takes a fresh buffer. -/
theorem hostOps0_11_fresh : (hostOps0_11 : List (HloOp τ sig (Elt F))).Forall fun op => op.fresh = ∅ := by
  simp only [List.Forall]; repeat' constructor
/-- No operation of this stretch takes a fresh buffer. -/
theorem hostOps0_12_fresh : (hostOps0_12 : List (HloOp τ sig (Elt F))).Forall fun op => op.fresh = ∅ := by
  simp only [List.Forall]; repeat' constructor

set_option maxHeartbeats 800000 in
/-- The program runs its host operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation writes this argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents when the call starts. -/
def tbl : pre0.Contents (Elt F) := fun j => V m (0 : Dev nD) (pre0.ref j)

/-- There is one device, so every device's tables hold them. -/
theorem V_pre (c : Dev nD) (j : Fin 3) : V m c (pre0.ref j) = tbl m j := by
  obtain rfl : c = 0 := Subsingleton.elim _ _; rfl

/-- Every block that a table places lies inside its array. -/
abbrev Ok : Prop := ok0 (F := F) (tbl m)

/-- The tables' contents as admissible contents. -/
abbrev adm (hO : Ok m) : (pcfg0 (F := F)).Adm := ⟨tbl m, hO⟩

/-- The pipeline at those contents. -/
abbrev cfgM (hO : Ok m) : Pipeline.Cfg sig Λ₀ := cfg0 (adm m hO)

/-- The tables as the body is handed them. -/
abbrev tbM0 : Memref sig .tc .smem S168 .i32 := Memref.whole main_v36
abbrev tbM1 : Memref sig .tc .smem S168 .i32 := Memref.whole main_v48
abbrev tbM2 : Memref sig .tc .smem S168 .i32 := Memref.whole main_v24

/-- A table's buffer on core `c`, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The three tables' halves, one by one. -/
theorem PhiT_eq (c : Dev nD) : (Pipeline.ΦT pre0 (tbl m) c : sProp 𝕄)
    = iprop(tbPt c tbM0 (tbl m 0) ∗ tbPt c tbM1 (tbl m 1) ∗ tbPt c tbM2 (tbl m 2)) := by
  unfold Pipeline.ΦT Pipeline.prefHeld
  rw [bigSep_univ_eq_bigSepL [(0 : Fin 3), (1 : Fin 3), (2 : Fin 3)] (by decide) (by decide)]
  rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body at point `t`, on what the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_v36) (Memref.isWhole_whole _) (Memref.whole main_v48) (Memref.isWhole_whole _) (Memref.whole main_v24) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-- Window 0's current staging buffer at point `t`, and that it is whole. -/
abbrev ms0 (hO : Ok m) (t : Fin (cfgM m hO).N) : Memref sig .tc .vmem S256x1152 .f32 := spec0_0.stage ((cfgM m hO).slots t 0)
abbrev hs0 (hO : Ok m) (t : Fin (cfgM m hO).N) : (ms0 m hO t).IsWhole := hstage0_0 (((cfgM m hO).slots t 0).cast nbuf0_0)
/-- Window 1's current staging buffer at point `t`, and that it is whole. -/
abbrev ms1 (hO : Ok m) (t : Fin (cfgM m hO).N) : Memref sig .tc .vmem S1x1024x512 .bf16 := spec0_1.stage ((cfgM m hO).slots t 1)
abbrev hs1 (hO : Ok m) (t : Fin (cfgM m hO).N) : (ms1 m hO t).IsWhole := hstage0_1 (((cfgM m hO).slots t 1).cast nbuf0_1)
/-- Window 2's current staging buffer at point `t`, and that it is whole. -/
abbrev ms2 (hO : Ok m) (t : Fin (cfgM m hO).N) : Memref sig .tc .vmem S1x1024x512 .bf16 := spec0_2.stage ((cfgM m hO).slots t 2)
abbrev hs2 (hO : Ok m) (t : Fin (cfgM m hO).N) : (ms2 m hO t).IsWhole := hstage0_2 (((cfgM m hO).slots t 2).cast nbuf0_2)
/-- Window 3's current staging buffer at point `t`, and that it is whole. -/
abbrev ms3 (hO : Ok m) (t : Fin (cfgM m hO).N) : Memref sig .tc .vmem S1x1024x512 .bf16 := spec0_3.stage ((cfgM m hO).slots t 3)
abbrev hs3 (hO : Ok m) (t : Fin (cfgM m hO).N) : (ms3 m hO t).IsWhole := hstage0_3 (((cfgM m hO).slots t 3).cast nbuf0_3)
/-- Window 4's current staging buffer at point `t`, and that it is whole. -/
abbrev ms4 (hO : Ok m) (t : Fin (cfgM m hO).N) : Memref sig .tc .vmem S1x1024x512 .bf16 := spec0_4.stage ((cfgM m hO).slots t 4)
abbrev hs4 (hO : Ok m) (t : Fin (cfgM m hO).N) : (ms4 m hO t).IsWhole := hstage0_4 (((cfgM m hO).slots t 4).cast nbuf0_4)
/-- Window 5's current staging buffer at point `t`, and that it is whole. -/
abbrev ms5 (hO : Ok m) (t : Fin (cfgM m hO).N) : Memref sig .tc .vmem S1x512x1024 .bf16 := spec0_5.stage ((cfgM m hO).slots t 5)
abbrev hs5 (hO : Ok m) (t : Fin (cfgM m hO).N) : (ms5 m hO t).IsWhole := hstage0_5 (((cfgM m hO).slots t 5).cast nbuf0_5)
/-- Window 6's current staging buffer at point `t`, and that it is whole. -/
abbrev ms6 (hO : Ok m) (t : Fin (cfgM m hO).N) : Memref sig .tc .vmem S1x512x1024 .bf16 := spec0_6.stage ((cfgM m hO).slots t 6)
abbrev hs6 (hO : Ok m) (t : Fin (cfgM m hO).N) : (ms6 m hO t).IsWhole := hstage0_6 (((cfgM m hO).slots t 6).cast nbuf0_6)
/-- Window 7's current staging buffer at point `t`, and that it is whole. -/
abbrev ms7 (hO : Ok m) (t : Fin (cfgM m hO).N) : Memref sig .tc .vmem S256x1024 .f32 := spec0_7.stage ((cfgM m hO).slots t 7)
abbrev hs7 (hO : Ok m) (t : Fin (cfgM m hO).N) : (ms7 m hO t).IsWhole := hstage0_7 (((cfgM m hO).slots t 7).cast nbuf0_7)

end Cert.Moe

end
-- ==== Proof.MoeBody.lean ====
/-
  The body of the experts' call at a point that is in use, and at one that is not.
-/
module

public import proofs.«01_k».proof.Proof.MoeSetup

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

abbrev rx : Rect S256x1152 := Rect.unit (s := S256x1152) ![0, 0] S256x1152.size inb_S256x1152_S256x1152_0_0
abbrev rg : Rect S1x1024x512 := Rect.unit (s := S1x1024x512) ![0, 0, 0] S1x1024x512.size inb_S1x1024x512_S1x1024x512_0_0_0
abbrev rd : Rect S1x512x1024 := Rect.unit (s := S1x512x1024) ![0, 0, 0] S1x512x1024.size inb_S1x512x1024_S1x512x1024_0_0_0
abbrev ro : Rect S256x1024 := Rect.unit (s := S256x1024) ![0, 0] S256x1024.size inb_S256x1024_S256x1024_0_0

/-- What the body stores at a point in use, from the input windows' blocks. -/
def outOn (x0 : Vec F S256x1152 .f32) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) : Vec F S256x1024 .f32 :=
  View.canon [⟨ro, k0_pay1 (k0_pay4 (View.ld x0 rx)) (k0_pay5 (View.ld x0 rx) (View.ld x1 rg) (View.ld x3 rg)) (k0_pay6 (View.ld x0 rx) (View.ld x2 rg)) (k0_pay7 (View.ld x0 rx) (View.ld x4 rg)) (View.ld x5 rd) (View.ld x6 rd)⟩]

/-- What the body stores at a point not in use: zeros. -/
def outOff : Vec F S256x1024 .f32 := View.canon [⟨ro, k0_pay2 (F := F)⟩]

/-- The one store covers the buffer. -/
theorem cover_out (p0 : Vec F S256x1024 .f32) (y : S256x1024.Idx) :
    ∃ pc ∈ ([⟨ro, p0⟩] : List (View.Piece (Elt F) S256x1024 .f32)), y ∈ pc.1.set :=
  View.cover_of_tiled [⟨ro, p0⟩] S256x1024.size (by rfl) y

set_option maxHeartbeats 1000000 in
/-- The body at a point in use: it leaves the inputs and the tables as they were and its output as stated. -/
theorem sound_on (c : Dev nD) (E : Set ℕ) (i : grid0.Coords) (arg4 : Memref sig .tc .vmem S256x1152 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S256x1024 .f32) (harg11 : arg11.IsWhole)
    (x0 : Vec F S256x1152 .f32) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (xt0 : TbBuf (F := F) c tbM0) (xt1 : TbBuf (F := F) c tbM1) (xt2 : TbBuf (F := F) c tbM2)
    (h1 : k0_cond1 ((tbM2.access (Rect.unit (s := S168) (k0_off1 i) S1.size (k0_off1_inb i))).read (Elt F) xt2 (Shape.Idx.first (numel1_S1.symm ▸ Nat.one_pos))) = 1#1) (h2 : ¬ k0_cond2 ((tbM2.access (Rect.unit (s := S168) (k0_off1 i) S1.size (k0_off1_inb i))).read (Elt F) xt2 (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt c tbM0 xt0 ∗ tbPt c tbM1 xt1 ∗ tbPt c tbM2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (outOn x0 x1 x2 x3 x4 x5 x6) ∗ tbPt c tbM0 xt0 ∗ tbPt c tbM1 xt1 ∗ tbPt c tbM2 xt2) -∗ K ⟨⟩))
      ⊢ wp frame (wpE (defs₀ (F := F)) Variants.none c none) E (cc0_moe_experts i tbM0 (Memref.isWhole_whole _) tbM1 (Memref.isWhole_whole _) tbM2 (Memref.isWhole_whole _) arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have e1 : sound_on.sl.r c i xt2 = (tbM2.access (Rect.unit (s := S168) (k0_off1 i) S1.size (k0_off1_inb i))).read (Elt F) xt2 (Shape.Idx.first (numel1_S1.symm ▸ Nat.one_pos)) := rfl
    have e2 : sound_on.sl.r_5 c i xt2 = (tbM2.access (Rect.unit (s := S168) (k0_off1 i) S1.size (k0_off1_inb i))).read (Elt F) xt2 (Shape.Idx.first (numel1_S1.symm ▸ Nat.one_pos)) := rfl
    have h1' : k0_cond1 (sound_on.sl.r c i xt2) = 1#1 := by rw [e1]; exact h1
    have h2' : ¬ k0_cond2 (sound_on.sl.r_5 c i xt2) = 1#1 := by rw [e2]; exact h2
    rw [dif_neg h2', dif_pos h1']
    refine (View.read_writes_eq_canon _ _ _ (cover_out (F := F) _)).trans ?_
    unfold outOn sound_on.sl.r_1 sound_on.sl.r_2 sound_on.sl.r_3 sound_on.sl.r_4
    rfl
  isplitl [HT0]; · iexact HT0
  isplitl [HT1]; · iexact HT1
  iexact HT2

set_option maxHeartbeats 1000000 in
/-- The body at a point not in use: it leaves the inputs and the tables as they were and its output as stated. -/
theorem sound_off (c : Dev nD) (E : Set ℕ) (i : grid0.Coords) (arg4 : Memref sig .tc .vmem S256x1152 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S256x1024 .f32) (harg11 : arg11.IsWhole)
    (x0 : Vec F S256x1152 .f32) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (xt0 : TbBuf (F := F) c tbM0) (xt1 : TbBuf (F := F) c tbM1) (xt2 : TbBuf (F := F) c tbM2)
    (h1 : ¬ k0_cond1 ((tbM2.access (Rect.unit (s := S168) (k0_off1 i) S1.size (k0_off1_inb i))).read (Elt F) xt2 (Shape.Idx.first (numel1_S1.symm ▸ Nat.one_pos))) = 1#1) (h2 : k0_cond2 ((tbM2.access (Rect.unit (s := S168) (k0_off1 i) S1.size (k0_off1_inb i))).read (Elt F) xt2 (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt c tbM0 xt0 ∗ tbPt c tbM1 xt1 ∗ tbPt c tbM2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (outOff) ∗ tbPt c tbM0 xt0 ∗ tbPt c tbM1 xt1 ∗ tbPt c tbM2 xt2) -∗ K ⟨⟩))
      ⊢ wp frame (wpE (defs₀ (F := F)) Variants.none c none) E (cc0_moe_experts i tbM0 (Memref.isWhole_whole _) tbM1 (Memref.isWhole_whole _) tbM2 (Memref.isWhole_whole _) arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have e1 : sound_off.sl.r c i xt2 = (tbM2.access (Rect.unit (s := S168) (k0_off1 i) S1.size (k0_off1_inb i))).read (Elt F) xt2 (Shape.Idx.first (numel1_S1.symm ▸ Nat.one_pos)) := rfl
    have e2 : sound_off.sl.r_5 c i xt2 = (tbM2.access (Rect.unit (s := S168) (k0_off1 i) S1.size (k0_off1_inb i))).read (Elt F) xt2 (Shape.Idx.first (numel1_S1.symm ▸ Nat.one_pos)) := rfl
    have h1' : ¬ k0_cond1 (sound_off.sl.r c i xt2) = 1#1 := by rw [e1]; exact h1
    have h2' : k0_cond2 (sound_off.sl.r_5 c i xt2) = 1#1 := by rw [e2]; exact h2
    rw [dif_pos h2']
    refine (View.read_writes_eq_canon _ _ _ (cover_out (F := F) _)).trans ?_
    unfold outOff
    rfl
  isplitl [HT0]; · iexact HT0
  isplitl [HT1]; · iexact HT1
  iexact HT2

end Cert.Moe

end
-- ==== Proof.MoeStep.lean ====
/-
  The frame of the experts' call: its body at every point, the launch, and the arguments left as they were.
-/
module

public import proofs.«01_k».proof.Proof.MoeBody

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word that says whether point `i`'s block is in use. -/
abbrev okWord (i : grid0.Coords) : Elt F .i32 :=
  (tbM2.access (Rect.unit (s := S168) (k0_off1 i) S1.size (k0_off1_inb i))).read (Elt F) (tbl m 2) (Shape.Idx.first (numel1_S1.symm ▸ Nat.one_pos))

/-- Each of those words is one or zero. -/
def Bit : Prop := ∀ i : grid0.Coords, okWord m i = (1#32 : BitVec 32) ∨ okWord m i = (0#32 : BitVec 32)

theorem cond1_one : k0_cond1 (1#32 : BitVec 32) = 1#1 := by decide
theorem cond2_one : ¬ k0_cond2 (1#32 : BitVec 32) = 1#1 := by decide
theorem cond1_zero : ¬ k0_cond1 (0#32 : BitVec 32) = 1#1 := by decide
theorem cond2_zero : k0_cond2 (0#32 : BitVec 32) = 1#1 := by decide

/-- A block of the output: the experts' weighted sum where the point is in use, zeros where it is not. -/
def outAt (hO : Ok m) (c : Dev nD) (t : Fin (cfgM m hO).N) : Vec F S256x1024 .f32 :=
  if k0_cond1 (okWord m (grid0.coords t)) = 1#1 then
    outOn (iblk m hO c 0 t) (iblk m hO c 1 t) (iblk m hO c 2 t) (iblk m hO c 3 t) (iblk m hO c 4 t) (iblk m hO c 5 t) (iblk m hO c 6 t)
  else outOff

/-- The proof data: every input block stays, the output block is `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body is called with at point `t`, the windows one by one, and what it returns. -/
def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (ms0 m hO t) fullShare ((dats m hO 0 c).before 0 t d)) ∗ (∃ d, owns (c : Thread nD τ) (ms1 m hO t) fullShare ((dats m hO 0 c).before 1 t d)) ∗ (∃ d, owns (c : Thread nD τ) (ms2 m hO t) fullShare ((dats m hO 0 c).before 2 t d)) ∗ (∃ d, owns (c : Thread nD τ) (ms3 m hO t) fullShare ((dats m hO 0 c).before 3 t d)) ∗ (∃ d, owns (c : Thread nD τ) (ms4 m hO t) fullShare ((dats m hO 0 c).before 4 t d)) ∗ (∃ d, owns (c : Thread nD τ) (ms5 m hO t) fullShare ((dats m hO 0 c).before 5 t d)) ∗ (∃ d, owns (c : Thread nD τ) (ms6 m hO t) fullShare ((dats m hO 0 c).before 6 t d)) ∗ (∃ d, owns (c : Thread nD τ) (ms7 m hO t) fullShare ((dats m hO 0 c).before 7 t d)))
def bodyPost (hO : Ok m) (c : Dev nD) (t : Fin (cfgM m hO).N) : sProp 𝕄 :=
  iprop((dats m hO 0 c).Φ t.succ ∗ (dats m hO 0 c).owesAt () t.succ ∗ owns (c : Thread nD τ) (ms0 m hO t) fullShare ((dats m hO 0 c).after 0 t) ∗ owns (c : Thread nD τ) (ms1 m hO t) fullShare ((dats m hO 0 c).after 1 t) ∗ owns (c : Thread nD τ) (ms2 m hO t) fullShare ((dats m hO 0 c).after 2 t) ∗ owns (c : Thread nD τ) (ms3 m hO t) fullShare ((dats m hO 0 c).after 3 t) ∗ owns (c : Thread nD τ) (ms4 m hO t) fullShare ((dats m hO 0 c).after 4 t) ∗ owns (c : Thread nD τ) (ms5 m hO t) fullShare ((dats m hO 0 c).after 5 t) ∗ owns (c : Thread nD τ) (ms6 m hO t) fullShare ((dats m hO 0 c).after 6 t) ∗ owns (c : Thread nD τ) (ms7 m hO t) fullShare ((dats m hO 0 c).after 7 t))

set_option maxHeartbeats 1000000 in
/-- The body runs at every point. -/
theorem sound_body (hO : Ok m) (hB : Bit m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl, after0_0, after0_1, after0_2, after0_3, after0_4, after0_5, after0_6, after0_7]
  rw [show (dats m hO 0 c).Φ t.castSucc = iprop(Pipeline.ΦA spec0 c ∗ Pipeline.ΦT pre0 (tbl m) c) from rfl, PhiT_eq]
  unfold outAt
  rcases hB (grid0.coords t) with hb | hb
  ·
    have h1 : k0_cond1 (okWord m (grid0.coords t)) = 1#1 := by rw [hb]; exact cond1_one
    have h2 : ¬ k0_cond2 (okWord m (grid0.coords t)) = 1#1 := by rw [hb]; exact cond2_one
    rw [if_pos h1]
    iintro ⟨⟨HΦ, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_on c Set.univ (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) h1 h2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, H7, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ·
    have h1 : ¬ k0_cond1 (okWord m (grid0.coords t)) = 1#1 := by rw [hb]; exact cond1_zero
    have h2 : k0_cond2 (okWord m (grid0.coords t)) = 1#1 := by rw [hb]; exact cond2_zero
    rw [if_neg h1]
    iintro ⟨⟨HΦ, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_off c Set.univ (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) h1 h2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, H7, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The third table's word at a point, read either way. -/
theorem atD_eq (pf : pre0.Contents (Elt F)) (i : grid0.Coords) : pf.atD 2 (k0_off1 i)
    = (tbM2.access (Rect.unit (s := S168) (k0_off1 i) S1.size (k0_off1_inb i))).read (Elt F) (pf 2) (Shape.Idx.first (numel1_S1.symm ▸ Nat.one_pos)) := by
  have h : ∀ a, k0_off1 i a + 1 ≤ (pre0.ref 2).ty.shape.size a := fun a => by
    match a with
    | ⟨0, _⟩ => exact k0_off1_inb i 0
  refine (dif_pos h).trans (congrArg (pf 2) (funext fun a => Fin.ext ?_))
  match a with
  | ⟨0, _⟩ => rfl

/-- When the output window is left alone, from the table's word. -/
theorem idle_eq (pf : pre0.Contents (Elt F)) (i : grid0.Coords) : idle0 pf 7 i
    = (!(k0_cond1 ((tbM2.access (Rect.unit (s := S168) (k0_off1 i) S1.size (k0_off1_inb i))).read (Elt F) (pf 2) (Shape.Idx.first (numel1_S1.symm ▸ Nat.one_pos))) == 1#1)
      && !(k0_cond2 ((tbM2.access (Rect.unit (s := S168) (k0_off1 i) S1.size (k0_off1_inb i))).read (Elt F) (pf 2) (Shape.Idx.first (numel1_S1.symm ▸ Nat.one_pos))) == 1#1)) := by
  rw [← atD_eq]; rfl

/-- The output window is stored to at every point. -/
theorem idle7 (hO : Ok m) (hB : Bit m) (t : Fin (cfgM m hO).N) : (cfgM m hO).idle (7 : Fin 8) ((cfgM m hO).grid.coords t) = false := by
  refine (idle_eq (tbl m) (grid0.coords t)).trans ?_
  change (!(k0_cond1 (okWord m (grid0.coords t)) == 1#1) && !(k0_cond2 (okWord m (grid0.coords t)) == 1#1)) = false
  rcases hB (grid0.coords t) with hb | hb <;> rw [hb] <;> decide

end Cert.Moe

end
-- ==== Proof.MoeFrame.lean ====
/-
  The frame of the experts' call: the launch, and the arguments left as they were.
-/
module

public import proofs.«01_k».proof.Proof.MoeStep

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The library's body obligation, at every point. -/
theorem body_obligation (hO : Ok m) (hB : Bit m) (c : Dev nD) : BodyObligation (dats (F := F) m hO 0 c) (defs₀ (F := F)) Variants.none () Set.univ := fun t => by
  rw [bigSep_W0, bigSep_W0, defs₀_row m hO, idle7 m hO hB t]
  exact triple_restated (sound_body m hO hB c t) rfl .rfl fun _ => .rfl

set_option backward.isDefEq.respectTransparency.types false in
set_option maxHeartbeats 800000 in
/-- The launch: every array of the pipeline ends at what the proof data says, every other buffer as it was, every counter at zero. -/
theorem run_main_quiescent (hO : Ok m) (hB : Bit m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO hB c).loose) (hq := fun _ _ _ => rfl)
    (howed := fun _ _ => rfl) (V := V m) (hmain := hmain m Variants.none) (hA := A_eq m hO) (hpf := V_pre m) (hΦ := fun _ _ => rfl)

/-- The frame of the call: it runs, its arguments end as they were, every counter at zero. -/
theorem frame_run (hO : Ok m) (hB : Bit m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of (win := spec0) _ (by decide) (by decide))).trans (V_main_arg0 m c),
      ((h.1 c).1 0).trans (((dats m hO 0 c).arrAt_in 0 rfl _).trans ((A_eq m hO c 0).trans (V_main_arg1 m c))),
      ((h.1 c).2 main_arg2 (Pipeline.mem_restRefs_of (win := spec0) _ (by decide) (by decide))).trans (V_main_arg2 m c), ((h.1 c).2 main_arg3 (Pipeline.mem_restRefs_of (win := spec0) _ (by decide) (by decide))).trans (V_main_arg3 m c), ((h.1 c).2 main_arg4 (Pipeline.mem_restRefs_of (win := spec0) _ (by decide) (by decide))).trans (V_main_arg4 m c)⟩, h.2⟩)
    (run_main_quiescent m ρ hO hB)

end Cert.Moe

end
-- ==== Proof.MoeOut.lean ====
/-
  What one step of the experts' call leaves in its output block, read at an index.
-/
module

public import proofs.«01_k».proof.Proof.MoeBody
public import Idealize.ShloMosaic.Lib.Pointwise
public import Idealize.ShloMosaic.Lib.Pipeline.ValueKit

@[expose] public section

set_option maxRecDepth 16384

noncomputable section

namespace Cert.Moe

open Cert.Kernel2Ideal Cert.Kernel2Ideal.Gen Idealize.ShloMosaic Idealize.ShloMosaic.TcCoe Idealize.SL.Sem

/-- One hidden unit of an expert: the gate's sum times its logistic, times the up projection's sum. -/
def act (H : Fin 1024 → EReal) (G U : Fin 1024 → Fin 512 → EReal) (f : Fin 512) : EReal :=
  (∑ k, H k * G k f) * Ideal.div 1 (1 + Ideal.exp (0 - ∑ k, H k * G k f)) * ∑ k, H k * U k f

/-- Two experts' outputs at a column, their hidden units weighted. -/
def mix (H : Fin 1024 → EReal) (wa wb : EReal) (Ga Ua : Fin 1024 → Fin 512 → EReal) (Da : Fin 512 → Fin 1024 → EReal)
    (Gb Ub : Fin 1024 → Fin 512 → EReal) (Db : Fin 512 → Fin 1024 → EReal) (n : Fin 1024) : EReal :=
  ∑ f, act H Ga Ua f * wa * Da f n + ∑ f, act H Gb Ub f * wb * Db f n

/-- The first expert's weighted hidden units. -/
theorem p5_at (x0 : Vec Ideal S256x1152 .f32) (g u : Vec Ideal S1x1024x512 .bf16) (r : Fin 256) (f : Fin 512) :
    k0_pay5 x0 g u (ix2 r f) = act (fun k => x0 (ix2 r ⟨k.val, by omega⟩)) (fun k f => g (ix3 0 k f)) (fun k f => u (ix3 0 k f)) f * x0 (ix2 r 1024) := by
  pointwise [k0_pay5, k0_pay3]
  rfl

/-- The second expert's gated sum. -/
theorem p6_at (x0 : Vec Ideal S256x1152 .f32) (g : Vec Ideal S1x1024x512 .bf16) (r : Fin 256) (f : Fin 512) :
    k0_pay6 x0 g (ix2 r f) = (∑ k : Fin 1024, x0 (ix2 r ⟨k.val, by omega⟩) * g (ix3 0 k f)) * Ideal.div 1 (1 + Ideal.exp (0 - ∑ k : Fin 1024, x0 (ix2 r ⟨k.val, by omega⟩) * g (ix3 0 k f))) := by
  pointwise [k0_pay6, k0_pay3]

/-- The second expert's up projection. -/
theorem p7_at (x0 : Vec Ideal S256x1152 .f32) (u : Vec Ideal S1x1024x512 .bf16) (r : Fin 256) (f : Fin 512) :
    k0_pay7 x0 u (ix2 r f) = ∑ k : Fin 1024, x0 (ix2 r ⟨k.val, by omega⟩) * u (ix3 0 k f) := by
  pointwise [k0_pay7, k0_pay3]

/-- The second expert's weight. -/
theorem p4_at (x0 : Vec Ideal S256x1152 .f32) (r : Fin 256) : k0_pay4 x0 (ix2 r 0) = x0 (ix2 r 1025) := by
  pointwise [k0_pay4]

/-- The two experts' outputs, added. -/
theorem p1_at (w : Vec Ideal S256x1 .f32) (p q z : Vec Ideal S256x512 .f32) (d e : Vec Ideal S1x512x1024 .bf16) (r : Fin 256) (n : Fin 1024) :
    k0_pay1 w p q z d e (ix2 r n) = ∑ f : Fin 512, p (ix2 r f) * d (ix3 0 f n) + ∑ f : Fin 512, q (ix2 r f) * z (ix2 r f) * w (ix2 r 0) * e (ix3 0 f n) := by
  pointwise [k0_pay1]

/-- A step in use leaves its two experts' weighted outputs. -/
theorem on_at (x0 : Vec Ideal S256x1152 .f32) (x1 x2 x3 x4 : Vec Ideal S1x1024x512 .bf16) (x5 x6 : Vec Ideal S1x512x1024 .bf16) (r : Fin 256) (n : Fin 1024) :
    outOn x0 x1 x2 x3 x4 x5 x6 (ix2 r n)
      = mix (fun k => x0 (ix2 r ⟨k.val, by omega⟩)) (x0 (ix2 r 1024)) (x0 (ix2 r 1025))
          (fun k f => x1 (ix3 0 k f)) (fun k f => x3 (ix3 0 k f)) (fun f n => x5 (ix3 0 f n))
          (fun k f => x2 (ix3 0 k f)) (fun k f => x4 (ix3 0 k f)) (fun f n => x6 (ix3 0 f n)) n := by
  unfold outOn
  frame_out
  refine (p1_at _ _ _ _ _ _ r n).trans ?_
  simp only [p5_at, p6_at, p7_at, p4_at]
  rfl

/-- A step not in use leaves zeros. -/
theorem off_at (r : Fin 256) (n : Fin 1024) : outOff (F := Ideal) (ix2 r n) = 0 := by
  unfold outOff
  frame_out
  pointwise [k0_pay2]

end Cert.Moe

end
-- ==== Proof.MoeTables.lean ====
/-
  The tables the experts' call prefetches: each block's two experts and whether the block is in use.
-/
module

public import proofs.«01_k».proof.Proof.MoeSetup
public import Idealize.ShloMosaic.Lib.Routing.OpsSearch
public import Idealize.ShloMosaic.Lib.Routing.Ops

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel2Ideal Cert.Kernel2Ideal.Gen

variable {F : FTy → Type} [FloatOps F]

local notation "𝕄" => MT nD τ sig Unit (Elt F) ℕ (UR sig nD τ) ℕ

abbrev k0 (c : BitVec 32) : IVec S_ 32 := constantI S_ 32 c
abbrev k24 (c : IVec S_ 32) : IVec S24 32 := broadcastInDim S24 ![] bcast_S_S24 c
abbrev k168 {w : ℕ} (c : IVec S_ w) : IVec S168 w := broadcastInDim S168 ![] bcast_S_S168 c

/-- Where each class's slots end: the running sum of the counts, each rounded up to whole blocks. -/
def pend (cnt : IVec S24 32) : IVec S24 32 :=
  Host.reduceWindow IntOp.addi ![24] ![1] ![23] ![0]
    (muli (select (andi (cmpi .ne (signi (subi (addi cnt (k24 (k0 256#32))) (k24 (k0 1#32)))) (k24 (signi (k0 256#32))))
        (cmpi .ne (Host.remsi (subi (addi cnt (k24 (k0 256#32))) (k24 (k0 1#32))) (k24 (k0 256#32))) (k24 (k0 0#32))))
      (subi (Host.divsi (subi (addi cnt (k24 (k0 256#32))) (k24 (k0 1#32))) (k24 (k0 256#32))) (k24 (k0 1#32)))
      (Host.divsi (subi (addi cnt (k24 (k0 256#32))) (k24 (k0 1#32))) (k24 (k0 256#32)))) (k24 (k0 256#32)))
    (broadcastInDim S_ ![] bcast_S_S_ (k0 0#32)) reduceWindows_S24_S24_w24s1p23_0 h_S_

/-- Each block's first slot. -/
def start : IVec S168 32 := muli (iotaInDim S168 32 0) (k168 (k0 256#32))

/-- Which classes end at or before each block. -/
def before (cnt : IVec S24 32) : IVec S168x24 1 :=
  cmpi .sge (broadcastInDim S168x24 ![0, 1] bcast_S168x1_S168x24_0_1 (broadcastInDim S168x1 ![0] bcast_S168_S168x1_0 start))
    (broadcastInDim S168x24 ![0, 1] bcast_S1x24_S168x24_0_1 (broadcastInDim S1x24 ![1] bcast_S24_S1x24_1 (pend cnt)))

/-- Each block's class. -/
def cls (cnt : IVec S24 32) : IVec S168 32 :=
  minsi (Host.reduce IntOp.addi (extui 32 (before cnt) natLt_1_32) (k0 0#32) reducesTo_S168x24_S168_d1 h_S_) (k168 (k0 23#32))

/-- Which blocks are in use, as bits. -/
def use1 (cnt : IVec S24 32) : IVec S168 1 :=
  cmpi .slt start (k168 (shapeCast S_ (extractStridedSlice S1 ![23] (pend cnt) slices_S24_S1_23) shapeCasts_S1_S_))

/-- Which blocks are in use, as words. -/
def use (cnt : IVec S24 32) : IVec S168 32 := extui 32 (use1 cnt) natLt_1_32

/-- The quotient by a divisor, rounded down. -/
def quod (d : IVec S_ 32) (v : IVec S168 32) : IVec S168 32 :=
  select (andi (cmpi .ne (signi v) (k168 (signi d))) (cmpi .ne (Host.remsi v (k168 d)) (k168 (k0 0#32))))
    (subi (Host.divsi v (k168 d)) (k168 (k0 1#32))) (Host.divsi v (k168 d))

/-- The quotient by six, rounded down. -/
def quo (v : IVec S168 32) : IVec S168 32 := quod (k0 6#32) v

abbrev six : IVec S_ 32 := select (cmpi .eq (k0 6#32) (k0 0#32)) (k0 1#32) (k0 6#32)

/-- The remainder by six, as the division leaves it. -/
def rem0 (v : IVec S168 32) : IVec S168 32 := Host.remsi v (k168 six)

/-- A remainder made not negative. -/
def rem1 (r : IVec S168 32) : IVec S168 32 :=
  select (andi (cmpi .ne (cmpi .slt r (k168 (k0 0#32))) (k168 (cmpi .slt six (k0 0#32)))) (cmpi .ne r (k168 (k0 0#32))))
    (addi r (k168 six)) r

/-- An index into a table of six, a negative one counted from its end. -/
def wrap (v : IVec S168 32) : IVec S168 32 :=
  select (cmpi .slt v (k168 (k0 0#32))) (addi v (k168 (k0 6#32))) v

/-- A block's expert: four times its group and the pair table's entry. -/
def expertd (d : IVec S_ 32) (tb : IVec S6 32) (v : IVec S168 32) : IVec S168 32 :=
  addi (muli (k168 (k0 4#32)) (quod d v)) (Host.gather gather_S6_S168x1_S168_n_0_n_n_0_1_1 tb (broadcastInDim S168x1 ![0] bcast_S168_S168x1_0 (wrap (rem1 (rem0 v)))))

/-- A block's expert, the divisor six. -/
def expert (tb : IVec S6 32) (v : IVec S168 32) : IVec S168 32 := expertd (k0 6#32) tb v

/-- The pair tables. -/
def ta : IVec S6 32 := fun i => lit0 (S6.rowMajor i)
def tb : IVec S6 32 := fun i => lit1 (S6.rowMajor i)

set_option maxHeartbeats 1000000

/-- The first stretches leave each block's class. -/
theorem a19 (s : Valuation τ sig (Elt F)) : StableHlo.after (List.flatten [hostOps0, hostOps0_1, hostOps0_2, hostOps0_3, hostOps0_4]) s (Proc.devRef .tc main_v19) = cls (s (Proc.devRef .tc main_arg0)) := by
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

/-- The first stretches leave which blocks are in use. -/
theorem a24 (s : Valuation τ sig (Elt F)) : StableHlo.after (List.flatten [hostOps0, hostOps0_1, hostOps0_2, hostOps0_3, hostOps0_4]) s (Proc.devRef .tc main_v24) = use (s (Proc.devRef .tc main_arg0)) := by
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

/-- The first stretches leave the first pair table. -/
theorem ac (s : Valuation τ sig (Elt F)) : StableHlo.after (List.flatten [hostOps0, hostOps0_1, hostOps0_2, hostOps0_3, hostOps0_4]) s (Proc.devRef .tc main_c) = ta := by
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

/-- The first stretches leave the second pair table. -/
theorem ac0 (s : Valuation τ sig (Elt F)) : StableHlo.after (List.flatten [hostOps0, hostOps0_1, hostOps0_2, hostOps0_3, hostOps0_4]) s (Proc.devRef .tc main_c_0) = tb := by
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

/-- The first stretches leave the divisor six. -/
theorem ac8 (s : Valuation τ sig (Elt F)) : StableHlo.after (List.flatten [hostOps0, hostOps0_1, hostOps0_2, hostOps0_3, hostOps0_4]) s (Proc.devRef .tc main_c_8) = k0 6#32 := by
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results

/-- The later stretches leave each block's first expert. -/
theorem b36 (s : Valuation τ sig (Elt F)) : StableHlo.after (List.flatten [hostOps0_5, hostOps0_6, hostOps0_7, hostOps0_8, hostOps0_9, hostOps0_10, hostOps0_11, hostOps0_12]) s (Proc.devRef .tc main_v36) = expertd (s (Proc.devRef .tc main_c_8)) (s (Proc.devRef .tc main_c)) (s (Proc.devRef .tc main_v19)) := by
  simp only [hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  simp only [expert, expertd, wrap, rem1, rem0, quod, six, k168, k0, id_eq, id]

/-- The later stretches leave each block's second expert. -/
theorem b48 (s : Valuation τ sig (Elt F)) : StableHlo.after (List.flatten [hostOps0_5, hostOps0_6, hostOps0_7, hostOps0_8, hostOps0_9, hostOps0_10, hostOps0_11, hostOps0_12]) s (Proc.devRef .tc main_v48) = expert (s (Proc.devRef .tc main_c_0)) (s (Proc.devRef .tc main_v19)) := by
  simp only [hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  simp only [expert, expertd, wrap, rem1, rem0, quod, six, k168, k0, id_eq, id]

/-- The later stretches keep which blocks are in use. -/
theorem b24 (s : Valuation τ sig (Elt F)) : StableHlo.after (List.flatten [hostOps0_5, hostOps0_6, hostOps0_7, hostOps0_8, hostOps0_9, hostOps0_10, hostOps0_11, hostOps0_12]) s (Proc.devRef .tc main_v24) = (s (Proc.devRef .tc main_v24)) := by
  simp only [hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results

variable (m : (ℓ : Loc nD τ sig) → Buf (Elt F) ℓ)

/-- The stretches in two parts. -/
theorem V_split (c : Dev nD) (b : Ref sig .tc) : V m c b
    = StableHlo.after (List.flatten [hostOps0_5, hostOps0_6, hostOps0_7, hostOps0_8, hostOps0_9, hostOps0_10, hostOps0_11, hostOps0_12]) (StableHlo.after (List.flatten [hostOps0, hostOps0_1, hostOps0_2, hostOps0_3, hostOps0_4]) (fun b => m (c, b))) (Proc.devRef .tc b) := by
  unfold V
  rw [← StableHlo.after_append]
  rfl

/-- The table the call is launched with. -/
theorem V_main_v36 (c : Dev nD) : V m c main_v36 = expert ta (cls (m ((c : Thread nD τ).loc main_arg0))) := by
  rw [V_split]; rw [b36, ac, ac8, a19]; rfl

/-- The table the call is launched with. -/
theorem V_main_v48 (c : Dev nD) : V m c main_v48 = expert tb (cls (m ((c : Thread nD τ).loc main_arg0))) := by
  rw [V_split]; rw [b48, ac0, a19]

/-- The table the call is launched with. -/
theorem V_main_v24 (c : Dev nD) : V m c main_v24 = use (m ((c : Thread nD τ).loc main_arg0)) := by
  rw [V_split]; rw [b24, a24]

/-- A block's class is one of the twenty-four. -/
theorem cls_at (cnt : IVec S24 32) (i : Fin 168) : ∃ k : Fin 24, cls cnt (ix1 i) = BitVec.ofNat 32 k.val := by
  have hn : (Host.reduce IntOp.addi (extui 32 (before cnt) natLt_1_32) (k0 0#32) reducesTo_S168x24_S168_d1 h_S_ (ix1 i)).toNat ≤ 24 :=
    (StableHlo.Predicate.toNat_reduce_count_cols (n := 168) (m := 24) (by decide) (before cnt) natLt_1_32 reducesTo_S168x24_S168_d1 h_S_ (ix1 i)).le.trans
      ((Finset.card_le_univ _).trans (by simp))
  have e : cls cnt (ix1 i) = IntOp.minsi (Host.reduce IntOp.addi (extui 32 (before cnt) natLt_1_32) (k0 0#32) reducesTo_S168x24_S168_d1 h_S_ (ix1 i)) 23#32 := rfl
  rw [e]
  generalize Host.reduce IntOp.addi (extui 32 (before cnt) natLt_1_32) (k0 0#32) reducesTo_S168x24_S168_d1 h_S_ (ix1 i) = w at hn
  have hw : w = BitVec.ofNat 32 w.toNat := by simp
  have key : ∀ n : Fin 25, ∃ k : Fin 24, IntOp.minsi (BitVec.ofNat 32 n.val) 23#32 = BitVec.ofNat 32 k.val := by decide +kernel
  obtain ⟨k, hk⟩ := key ⟨w.toNat, by omega⟩
  exact ⟨k, by rw [hw]; exact hk⟩

/-- The quotient at a class. -/
theorem quo_at (v : IVec S168 32) (i : Fin 168) (k : Fin 24) (h : v (ix1 i) = BitVec.ofNat 32 k.val) : quo v (ix1 i) = BitVec.ofNat 32 (k.val / 6) := by
  have e : quo v (ix1 i) = quo (fun _ => v (ix1 i)) (ix1 (0 : Fin 168)) := rfl
  rw [e, h]
  exact (by decide +kernel : ∀ k : Fin 24, quo (fun _ => BitVec.ofNat 32 k.val) (ix1 (0 : Fin 168)) = BitVec.ofNat 32 (k.val / 6)) k

/-- The remainder at a class. -/
theorem rem0_at (v : IVec S168 32) (i : Fin 168) (k : Fin 24) (h : v (ix1 i) = BitVec.ofNat 32 k.val) : rem0 v (ix1 i) = BitVec.ofNat 32 (k.val % 6) := by
  have e : rem0 v (ix1 i) = rem0 (fun _ => v (ix1 i)) (ix1 (0 : Fin 168)) := rfl
  rw [e, h]
  exact (by decide +kernel : ∀ k : Fin 24, rem0 (fun _ => BitVec.ofNat 32 k.val) (ix1 (0 : Fin 168)) = BitVec.ofNat 32 (k.val % 6)) k

/-- The remainder is not negative. -/
theorem rem1_at (v : IVec S168 32) (i : Fin 168) (k : Fin 6) (h : v (ix1 i) = BitVec.ofNat 32 k.val) : rem1 v (ix1 i) = BitVec.ofNat 32 (k.val) := by
  have e : rem1 v (ix1 i) = rem1 (fun _ => v (ix1 i)) (ix1 (0 : Fin 168)) := rfl
  rw [e, h]
  exact (by decide +kernel : ∀ k : Fin 6, rem1 (fun _ => BitVec.ofNat 32 k.val) (ix1 (0 : Fin 168)) = BitVec.ofNat 32 (k.val)) k

/-- An index that is not negative stays. -/
theorem wrap_at (v : IVec S168 32) (i : Fin 168) (k : Fin 6) (h : v (ix1 i) = BitVec.ofNat 32 k.val) : wrap v (ix1 i) = BitVec.ofNat 32 (k.val) := by
  have e : wrap v (ix1 i) = wrap (fun _ => v (ix1 i)) (ix1 (0 : Fin 168)) := rfl
  rw [e, h]
  exact (by decide +kernel : ∀ k : Fin 6, wrap (fun _ => BitVec.ofNat 32 k.val) (ix1 (0 : Fin 168)) = BitVec.ofNat 32 (k.val)) k

/-- The pairs' first and second members. -/
def pa : Fin 6 → ℕ := ![0, 0, 0, 1, 1, 2]
def pb : Fin 6 → ℕ := ![1, 2, 3, 2, 3, 3]

theorem ta_at : ∀ j : Fin 6, ta (ix1 j) = BitVec.ofNat 32 (pa j) := by decide +kernel
theorem tb_at : ∀ j : Fin 6, tb (ix1 j) = BitVec.ofNat 32 (pb j) := by decide +kernel

/-- A block's expert, from its class. -/
theorem expert_at (t : IVec S6 32) (p : Fin 6 → ℕ) (ht : ∀ j : Fin 6, t (ix1 j) = BitVec.ofNat 32 (p j)) (v : IVec S168 32) (i : Fin 168) (k : Fin 24) (h : v (ix1 i) = BitVec.ofNat 32 k.val) :
    expert t v (ix1 i) = BitVec.ofNat 32 (4 * (k.val / 6) + p ⟨k.val % 6, Nat.mod_lt _ (by decide)⟩) := by
  have e : Host.gather gather_S6_S168x1_S168_n_0_n_n_0_1_1 t (broadcastInDim S168x1 ![0] bcast_S168_S168x1_0 (wrap (rem1 (rem0 v)))) (ix1 i) = t (ix1 ⟨k.val % 6, Nat.mod_lt _ (by decide)⟩) :=
    Routing.take_ap gather_S6_S168x1_S168_n_0_n_n_0_1_1 rfl rfl rfl rfl t _ i (Nat.mod_lt _ (by decide)) (by omega)
      ((show _ = wrap (rem1 (rem0 v)) (ix1 i) from congrArg (wrap (rem1 (rem0 v))) (funext fun a => by match a with | ⟨0, _⟩ => rfl)).trans (wrap_at _ i ⟨k.val % 6, Nat.mod_lt _ (by decide)⟩ (rem1_at _ i ⟨k.val % 6, Nat.mod_lt _ (by decide)⟩ (rem0_at v i k h))))
  have e2 : expert t v (ix1 i) = IntOp.addi (IntOp.muli 4#32 (quo v (ix1 i))) (Host.gather gather_S6_S168x1_S168_n_0_n_n_0_1_1 t (broadcastInDim S168x1 ![0] bcast_S168_S168x1_0 (wrap (rem1 (rem0 v)))) (ix1 i)) := rfl
  rw [e2, e, ht, quo_at v i k h]
  show 4#32 * BitVec.ofNat 32 (k.val / 6) + BitVec.ofNat 32 _ = _
  apply BitVec.eq_of_toNat_eq
  simp

/-- A word of the third table is one or zero. -/
theorem use_at (cnt : IVec S24 32) (i : S168.Idx) : use cnt i = 1#32 ∨ use cnt i = 0#32 := by
  have e : use cnt i = (use1 cnt i).setWidth 32 := rfl
  rw [e]
  generalize use1 cnt i = b
  revert b
  decide

end Cert.Moe

end
-- ==== Proof.MoeOk.lean ====
/-
  The table words the steps read, and that they are in range.
-/
module

public import proofs.«01_k».proof.Proof.MoeTables
public import proofs.«01_k».proof.Proof.MoeStep

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-- The counts the call is given. -/
abbrev cnt : IVec S24 32 := m (((0 : Dev nD) : Thread nD τ).loc main_arg0)

/-- A step's number, as a position of the tables. -/
abbrev stp (i : grid0.Coords) : Fin 168 := i 0

/-- The entry of a table a step reads. -/
theorem entry (i : grid0.Coords) (x : S1.Idx) : (Rect.unit (s := S168) (k0_off1 i) S1.size (k0_off1_inb i)).emb x = ix1 (stp i) := by
  refine funext fun a => Fin.ext ?_
  match a with
  | ⟨0, h⟩ =>
    have hx : (x ⟨0, h⟩).val = 0 := Nat.lt_one_iff.1 (x ⟨0, h⟩).isLt
    have hi : (i 0).val < 168 := (i 0).isLt
    refine Eq.trans (show _ = (BitVec.ofNat 32 (i 0).val).toNat + 1 * (x ⟨0, h⟩).val from rfl) (Eq.trans ?_ (show (i 0).val = _ from rfl))
    rw [hx, BitVec.toNat_ofNat]
    omega

theorem tbl0 : tbl m 0 = expert ta (cls (cnt m)) := V_main_v36 m 0
theorem tbl1 : tbl m 1 = expert tb (cls (cnt m)) := V_main_v48 m 0
theorem tbl2 : tbl m 2 = use (cnt m) := V_main_v24 m 0

/-- The first expert a step reads. -/
theorem at0 (i : grid0.Coords) : (tbl m).at 0 (Rect.unit (s := S168) (k0_off1 i) S1.size (k0_off1_inb i)) numel1_S1 = expert ta (cls (cnt m)) (ix1 (stp i)) := by
  unfold Pipeline.Prefetch.Contents.at
  exact (congrFun (tbl0 m) _).trans (congrArg (expert ta (cls (cnt m))) (entry i _))

/-- The second expert a step reads. -/
theorem at1 (i : grid0.Coords) : (tbl m).at 1 (Rect.unit (s := S168) (k0_off1 i) S1.size (k0_off1_inb i)) numel1_S1 = expert tb (cls (cnt m)) (ix1 (stp i)) := by
  unfold Pipeline.Prefetch.Contents.at
  exact (congrFun (tbl1 m) _).trans (congrArg (expert tb (cls (cnt m))) (entry i _))

/-- The word of the third table a step reads. -/
theorem okWord_eq (i : grid0.Coords) : okWord m i = use (cnt m) (ix1 (stp i)) := by
  refine Eq.trans (show _ = tbl m 2 ((Rect.unit (s := S168) (k0_off1 i) S1.size (k0_off1_inb i)).emb (Shape.Idx.first (numel1_S1.symm ▸ Nat.one_pos))) from rfl) ?_
  exact (congrFun (tbl2 m) _).trans (congrArg (use (cnt m)) (entry i _))

/-- Each step's block is in use or it is not. -/
theorem bit : Bit m := fun i => by rw [okWord_eq]; exact use_at _ _

theorem pa_lt : ∀ j : Fin 6, pa j < 4 := by decide
theorem pb_lt : ∀ j : Fin 6, pb j < 4 := by decide

/-- A step's first expert is one of the sixteen. -/
theorem lt0 (i : grid0.Coords) : (expert ta (cls (cnt m)) (ix1 (stp i))).toNat < 16 := by
  obtain ⟨k, hk⟩ := cls_at (cnt m) (stp i)
  rw [expert_at ta pa ta_at _ _ k hk, BitVec.toNat_ofNat]
  have := pa_lt ⟨k.val % 6, Nat.mod_lt _ (by decide)⟩
  omega

/-- A step's second expert is one of the sixteen. -/
theorem lt1 (i : grid0.Coords) : (expert tb (cls (cnt m)) (ix1 (stp i))).toNat < 16 := by
  obtain ⟨k, hk⟩ := cls_at (cnt m) (stp i)
  rw [expert_at tb pb tb_at _ _ k hk, BitVec.toNat_ofNat]
  have := pb_lt ⟨k.val % 6, Nat.mod_lt _ (by decide)⟩
  omega

/-- A block of an expert's rows lies in the weights' array. -/
theorem inb_g (n : ℕ) (h : n < 16) : ∀ a, ((![n, 0, 0] : Fin 3 → ℕ) a + 1) * S1x1024x512.size a ≤ S16x1024x512.size a := fun a => by
  match a with
  | ⟨0, _⟩ => show (n + 1) * 1 ≤ 16; omega
  | ⟨1, _⟩ => show (0 + 1) * 1024 ≤ 1024; omega
  | ⟨2, _⟩ => show (0 + 1) * 512 ≤ 512; omega

/-- A block of an expert's rows lies in the weights' array. -/
theorem inb_d (n : ℕ) (h : n < 16) : ∀ a, ((![n, 0, 0] : Fin 3 → ℕ) a + 1) * S1x512x1024.size a ≤ S16x512x1024.size a := fun a => by
  match a with
  | ⟨0, _⟩ => show (n + 1) * 1 ≤ 16; omega
  | ⟨1, _⟩ => show (0 + 1) * 512 ≤ 512; omega
  | ⟨2, _⟩ => show (0 + 1) * 1024 ≤ 1024; omega

/-- Where a step's block of window 1 lies. -/
theorem tr1 (i : grid0.Coords) : cc0_transform_1 k0_off1_inb numel1_S1 (tbl m) i = ![(expert ta (cls (cnt m)) (ix1 (stp i))).toNat, 0, 0] := by
  rw [← at0 m i]; rfl

/-- Where a step's block of window 2 lies. -/
theorem tr2 (i : grid0.Coords) : cc0_transform_2 k0_off1_inb numel1_S1 (tbl m) i = ![(expert tb (cls (cnt m)) (ix1 (stp i))).toNat, 0, 0] := by
  rw [← at1 m i]; rfl

/-- Where a step's block of window 3 lies. -/
theorem tr3 (i : grid0.Coords) : cc0_transform_3 k0_off1_inb numel1_S1 (tbl m) i = ![(expert ta (cls (cnt m)) (ix1 (stp i))).toNat, 0, 0] := by
  rw [← at0 m i]; rfl

/-- Where a step's block of window 4 lies. -/
theorem tr4 (i : grid0.Coords) : cc0_transform_4 k0_off1_inb numel1_S1 (tbl m) i = ![(expert tb (cls (cnt m)) (ix1 (stp i))).toNat, 0, 0] := by
  rw [← at1 m i]; rfl

/-- Where a step's block of window 5 lies. -/
theorem tr5 (i : grid0.Coords) : cc0_transform_5 k0_off1_inb numel1_S1 (tbl m) i = ![(expert ta (cls (cnt m)) (ix1 (stp i))).toNat, 0, 0] := by
  rw [← at0 m i]; rfl

/-- Where a step's block of window 6 lies. -/
theorem tr6 (i : grid0.Coords) : cc0_transform_6 k0_off1_inb numel1_S1 (tbl m) i = ![(expert tb (cls (cnt m)) (ix1 (stp i))).toNat, 0, 0] := by
  rw [← at1 m i]; rfl

/-- Every block a step asks for lies in its array. -/
theorem ok : Ok m :=
  ⟨fun i => ⟨by rw [tr1 m i]; exact inb_g _ (lt0 m i), .inr (Affine.block_words_dvd (of_decide_eq_true rfl) (by decide))⟩,
    fun i => ⟨by rw [tr2 m i]; exact inb_g _ (lt1 m i), .inr (Affine.block_words_dvd (of_decide_eq_true rfl) (by decide))⟩,
    fun i => ⟨by rw [tr3 m i]; exact inb_g _ (lt0 m i), .inr (Affine.block_words_dvd (of_decide_eq_true rfl) (by decide))⟩,
    fun i => ⟨by rw [tr4 m i]; exact inb_g _ (lt1 m i), .inr (Affine.block_words_dvd (of_decide_eq_true rfl) (by decide))⟩,
    fun i => ⟨by rw [tr5 m i]; exact inb_d _ (lt0 m i), .inr (Affine.block_words_dvd (of_decide_eq_true rfl) (by decide))⟩,
    fun i => ⟨by rw [tr6 m i]; exact inb_d _ (lt1 m i), .inr (Affine.block_words_dvd (of_decide_eq_true rfl) (by decide))⟩⟩

end Cert.Moe

end
-- ==== Proof.MoeArray.lean ====
/-
  The experts' result array after the run, as a function of the arrays the call reads and its tables.
-/
module

public import proofs.«01_k».proof.Proof.MoeOut
public import proofs.«01_k».proof.Proof.MoeOk
public import Idealize.ShloMosaic.Lib.Claim

@[expose] public section

set_option maxRecDepth 16384

noncomputable section

namespace Cert.Moe

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

local notation "CF" => cfgM m (ok m)

/-- Step `t`'s grid coordinate is `t`. -/
theorem crd : ∀ t : Fin grid0.N, (grid0.coords t 0).val = t.val := by decide +kernel

/-- There are 168 steps. -/
theorem tlt (t : Fin grid0.N) : t.val < 168 := t.isLt

theorem tr0 : ∀ t : Fin grid0.N, cc0_transform_0 (grid0.coords t) = ![t.val, 0] := by decide +kernel
theorem tr7 : ∀ t : Fin grid0.N, cc0_transform_7 (grid0.coords t) = ![t.val, 0] := by decide +kernel

/-- The output block is written back after every step. -/
theorem flush7 (t : Fin grid0.N) : ((CF).win 7).flush t = true :=
  (show _ = Pipeline.Window.flushOf grid0 true cc0_transform_7 t from rfl).trans
    ((by decide +kernel : ∀ t : Fin grid0.N, Pipeline.Window.flushOf grid0 true cc0_transform_7 t = true) t)

/-- A block's first expert is one of the sixteen. -/
theorem eat (b : Fin 168) : (expert ta (cls (cnt m)) (Idealize.ShloMosaic.ValueIdx.ix1 b)).toNat < 16 := by
  obtain ⟨k, hk⟩ := cls_at (cnt m) b
  rw [expert_at ta pa ta_at _ _ k hk, BitVec.toNat_ofNat]
  have := pa_lt ⟨k.val % 6, Nat.mod_lt _ (by decide)⟩
  omega

/-- A block's second expert is one of the sixteen. -/
theorem ebt (b : Fin 168) : (expert tb (cls (cnt m)) (Idealize.ShloMosaic.ValueIdx.ix1 b)).toNat < 16 := by
  obtain ⟨k, hk⟩ := cls_at (cnt m) b
  rw [expert_at tb pb tb_at _ _ k hk, BitVec.toNat_ofNat]
  have := pb_lt ⟨k.val % 6, Nat.mod_lt _ (by decide)⟩
  omega

/-- A block's first expert. -/
def ea (b : Fin 168) : Fin 16 := ⟨_, eat m b⟩
/-- A block's second expert. -/
def eb (b : Fin 168) : Fin 16 := ⟨_, ebt m b⟩

/-- A step's number. -/
def sn (t : Fin grid0.N) : Fin 168 := ⟨t.val, t.isLt⟩

theorem stp_eq (t : Fin grid0.N) : stp (grid0.coords t) = sn t := Fin.ext (crd t)

/-- The tokens' block at a step, read off its array. -/
theorem blk0 (t : Fin grid0.N) (W : S43008x1152.Idx → EReal) (a : Fin 256) (e : Fin 1152) :
    (((CF).win 0).blk t).view.read (Elt Ideal) W (ix2 a e) = W (ix2 ⟨256 * t.val + a.val, by have := tlt t; omega⟩ e) := by
  show W _ = W _
  refine congrArg W (funext fun k => Fin.ext ?_)
  refine Eq.trans (show _ = cc0_transform_0 (grid0.coords t) k * S256x1152.size k + 1 * ((ix2 a e : S256x1152.Idx) k).val from rfl) ?_
  rw [tr0]
  match k with
  | ⟨0, _⟩ => show t.val * 256 + 1 * a.val = 256 * t.val + a.val; omega
  | ⟨1, _⟩ => show 0 * 1152 + 1 * e.val = e.val; omega

/-- Window 1's index at a step: its expert. -/
theorem ix_1 (t : Fin grid0.N) : ((CF).win 1).index t = ![(ea m (sn t)).val, 0, 0] :=
  (show _ = cc0_transform_1 k0_off1_inb numel1_S1 (tbl m) (grid0.coords t) from rfl).trans ((tr1 m _).trans (by rw [stp_eq]; rfl))

/-- Where window 1's block lies in its array. -/
theorem emb1 (t : Fin grid0.N) (y : S1x1024x512.Idx) (k : Fin 3) :
    (((((CF).win 1).blk t).view.emb y : S16x1024x512.Idx) k).val = ((CF).win 1).index t k * S1x1024x512.size k + 1 * (y k).val := rfl

/-- Window 1's block at a step: its expert's part of the array. -/
theorem blk1 (t : Fin grid0.N) (W : S16x1024x512.Idx → EReal) (a : Fin 1024) (e : Fin 512) :
    (((CF).win 1).blk t).view.read (Elt Ideal) W (ix3 0 a e) = W (ix3 (ea m (sn t)) a e) := by
  show W _ = W _
  refine congrArg W (funext fun k => Fin.ext ((emb1 m t _ k).trans ?_))
  rw [ix_1]
  generalize ea m (sn t) = E
  match k with
  | ⟨0, _⟩ => exact Nat.mul_one _
  | ⟨1, _⟩ => show 0 * 1024 + 1 * a.val = a.val; omega
  | ⟨2, _⟩ => show 0 * 512 + 1 * e.val = e.val; omega

/-- Window 2's index at a step: its expert. -/
theorem ix_2 (t : Fin grid0.N) : ((CF).win 2).index t = ![(eb m (sn t)).val, 0, 0] :=
  (show _ = cc0_transform_2 k0_off1_inb numel1_S1 (tbl m) (grid0.coords t) from rfl).trans ((tr2 m _).trans (by rw [stp_eq]; rfl))

/-- Where window 2's block lies in its array. -/
theorem emb2 (t : Fin grid0.N) (y : S1x1024x512.Idx) (k : Fin 3) :
    (((((CF).win 2).blk t).view.emb y : S16x1024x512.Idx) k).val = ((CF).win 2).index t k * S1x1024x512.size k + 1 * (y k).val := rfl

/-- Window 2's block at a step: its expert's part of the array. -/
theorem blk2 (t : Fin grid0.N) (W : S16x1024x512.Idx → EReal) (a : Fin 1024) (e : Fin 512) :
    (((CF).win 2).blk t).view.read (Elt Ideal) W (ix3 0 a e) = W (ix3 (eb m (sn t)) a e) := by
  show W _ = W _
  refine congrArg W (funext fun k => Fin.ext ((emb2 m t _ k).trans ?_))
  rw [ix_2]
  generalize eb m (sn t) = E
  match k with
  | ⟨0, _⟩ => exact Nat.mul_one _
  | ⟨1, _⟩ => show 0 * 1024 + 1 * a.val = a.val; omega
  | ⟨2, _⟩ => show 0 * 512 + 1 * e.val = e.val; omega

/-- Window 3's index at a step: its expert. -/
theorem ix_3 (t : Fin grid0.N) : ((CF).win 3).index t = ![(ea m (sn t)).val, 0, 0] :=
  (show _ = cc0_transform_3 k0_off1_inb numel1_S1 (tbl m) (grid0.coords t) from rfl).trans ((tr3 m _).trans (by rw [stp_eq]; rfl))

/-- Where window 3's block lies in its array. -/
theorem emb3 (t : Fin grid0.N) (y : S1x1024x512.Idx) (k : Fin 3) :
    (((((CF).win 3).blk t).view.emb y : S16x1024x512.Idx) k).val = ((CF).win 3).index t k * S1x1024x512.size k + 1 * (y k).val := rfl

/-- Window 3's block at a step: its expert's part of the array. -/
theorem blk3 (t : Fin grid0.N) (W : S16x1024x512.Idx → EReal) (a : Fin 1024) (e : Fin 512) :
    (((CF).win 3).blk t).view.read (Elt Ideal) W (ix3 0 a e) = W (ix3 (ea m (sn t)) a e) := by
  show W _ = W _
  refine congrArg W (funext fun k => Fin.ext ((emb3 m t _ k).trans ?_))
  rw [ix_3]
  generalize ea m (sn t) = E
  match k with
  | ⟨0, _⟩ => exact Nat.mul_one _
  | ⟨1, _⟩ => show 0 * 1024 + 1 * a.val = a.val; omega
  | ⟨2, _⟩ => show 0 * 512 + 1 * e.val = e.val; omega

/-- Window 4's index at a step: its expert. -/
theorem ix_4 (t : Fin grid0.N) : ((CF).win 4).index t = ![(eb m (sn t)).val, 0, 0] :=
  (show _ = cc0_transform_4 k0_off1_inb numel1_S1 (tbl m) (grid0.coords t) from rfl).trans ((tr4 m _).trans (by rw [stp_eq]; rfl))

/-- Where window 4's block lies in its array. -/
theorem emb4 (t : Fin grid0.N) (y : S1x1024x512.Idx) (k : Fin 3) :
    (((((CF).win 4).blk t).view.emb y : S16x1024x512.Idx) k).val = ((CF).win 4).index t k * S1x1024x512.size k + 1 * (y k).val := rfl

/-- Window 4's block at a step: its expert's part of the array. -/
theorem blk4 (t : Fin grid0.N) (W : S16x1024x512.Idx → EReal) (a : Fin 1024) (e : Fin 512) :
    (((CF).win 4).blk t).view.read (Elt Ideal) W (ix3 0 a e) = W (ix3 (eb m (sn t)) a e) := by
  show W _ = W _
  refine congrArg W (funext fun k => Fin.ext ((emb4 m t _ k).trans ?_))
  rw [ix_4]
  generalize eb m (sn t) = E
  match k with
  | ⟨0, _⟩ => exact Nat.mul_one _
  | ⟨1, _⟩ => show 0 * 1024 + 1 * a.val = a.val; omega
  | ⟨2, _⟩ => show 0 * 512 + 1 * e.val = e.val; omega

/-- Window 5's index at a step: its expert. -/
theorem ix_5 (t : Fin grid0.N) : ((CF).win 5).index t = ![(ea m (sn t)).val, 0, 0] :=
  (show _ = cc0_transform_5 k0_off1_inb numel1_S1 (tbl m) (grid0.coords t) from rfl).trans ((tr5 m _).trans (by rw [stp_eq]; rfl))

/-- Where window 5's block lies in its array. -/
theorem emb5 (t : Fin grid0.N) (y : S1x512x1024.Idx) (k : Fin 3) :
    (((((CF).win 5).blk t).view.emb y : S16x512x1024.Idx) k).val = ((CF).win 5).index t k * S1x512x1024.size k + 1 * (y k).val := rfl

/-- Window 5's block at a step: its expert's part of the array. -/
theorem blk5 (t : Fin grid0.N) (W : S16x512x1024.Idx → EReal) (a : Fin 512) (e : Fin 1024) :
    (((CF).win 5).blk t).view.read (Elt Ideal) W (ix3 0 a e) = W (ix3 (ea m (sn t)) a e) := by
  show W _ = W _
  refine congrArg W (funext fun k => Fin.ext ((emb5 m t _ k).trans ?_))
  rw [ix_5]
  generalize ea m (sn t) = E
  match k with
  | ⟨0, _⟩ => exact Nat.mul_one _
  | ⟨1, _⟩ => show 0 * 512 + 1 * a.val = a.val; omega
  | ⟨2, _⟩ => show 0 * 1024 + 1 * e.val = e.val; omega

/-- Window 6's index at a step: its expert. -/
theorem ix_6 (t : Fin grid0.N) : ((CF).win 6).index t = ![(eb m (sn t)).val, 0, 0] :=
  (show _ = cc0_transform_6 k0_off1_inb numel1_S1 (tbl m) (grid0.coords t) from rfl).trans ((tr6 m _).trans (by rw [stp_eq]; rfl))

/-- Where window 6's block lies in its array. -/
theorem emb6 (t : Fin grid0.N) (y : S1x512x1024.Idx) (k : Fin 3) :
    (((((CF).win 6).blk t).view.emb y : S16x512x1024.Idx) k).val = ((CF).win 6).index t k * S1x512x1024.size k + 1 * (y k).val := rfl

/-- Window 6's block at a step: its expert's part of the array. -/
theorem blk6 (t : Fin grid0.N) (W : S16x512x1024.Idx → EReal) (a : Fin 512) (e : Fin 1024) :
    (((CF).win 6).blk t).view.read (Elt Ideal) W (ix3 0 a e) = W (ix3 (eb m (sn t)) a e) := by
  show W _ = W _
  refine congrArg W (funext fun k => Fin.ext ((emb6 m t _ k).trans ?_))
  rw [ix_6]
  generalize eb m (sn t) = E
  match k with
  | ⟨0, _⟩ => exact Nat.mul_one _
  | ⟨1, _⟩ => show 0 * 512 + 1 * a.val = a.val; omega
  | ⟨2, _⟩ => show 0 * 1024 + 1 * e.val = e.val; omega

/-- A step's block is in use. -/
def On (b : Fin 168) : Prop := use1 (cnt m) (Idealize.ShloMosaic.ValueIdx.ix1 b) = 1#1

instance (b : Fin 168) : Decidable (On m b) := inferInstanceAs (Decidable (_ = _))

theorem cond_bit : ∀ b : BitVec 1, k0_cond1 (b.setWidth 32) = 1#1 ↔ b = 1#1 := by decide

/-- The body takes the branch that multiplies exactly where the block is in use. -/
theorem cond_on (t : Fin grid0.N) : k0_cond1 (okWord m (grid0.coords t)) = 1#1 ↔ On m (sn t) := by
  rw [okWord_eq, stp_eq]
  exact cond_bit _

/-- The block a row of the slots belongs to. -/
def bk (j : Fin 43008) : Fin 168 := ⟨j.val / 256, by omega⟩

/-- One entry of the result, from the row of tokens and the block's experts' weights. -/
def ent (p : Prop) [Decidable p] (x : Fin 1152 → EReal) (Ga Ua : Fin 1024 → Fin 512 → EReal) (Da : Fin 512 → Fin 1024 → EReal)
    (Gb Ub : Fin 1024 → Fin 512 → EReal) (Db : Fin 512 → Fin 1024 → EReal) (n : Fin 1024) : EReal :=
  if p then mix (fun k => x ⟨k.val, by omega⟩) (x 1024) (x 1025) Ga Ua Da Gb Ub Db n else 0

/-- The array the call leaves, as a function of the arrays it reads. -/
def GM (X : S43008x1152.Idx → EReal) (A B : S16x1024x512.Idx → EReal) (C : S16x512x1024.Idx → EReal) : S43008x1024.Idx → EReal := fun i =>
  ent (On m (bk (i 0))) (fun k => X (ix2 (i 0) k)) (fun k f => A (ix3 (ea m (bk (i 0))) k f)) (fun k f => B (ix3 (ea m (bk (i 0))) k f)) (fun f n => C (ix3 (ea m (bk (i 0))) f n))
    (fun k f => A (ix3 (eb m (bk (i 0))) k f)) (fun k f => B (ix3 (eb m (bk (i 0))) k f)) (fun f n => C (ix3 (eb m (bk (i 0))) f n)) (i 1)

/-- What a step leaves in the output block, read at an index. -/
theorem outAt_at (c : Dev nD) (t : Fin grid0.N) (r : Fin 256) (n : Fin 1024) :
    outAt m (ok m) c t (ix2 r n)
      = ent (On m (sn t)) (fun k => V m c main_arg1 (ix2 ⟨256 * t.val + r.val, by have := tlt t; omega⟩ k))
          (fun k f => V m c main_v49 (ix3 (ea m (sn t)) k f)) (fun k f => V m c main_v50 (ix3 (ea m (sn t)) k f)) (fun f n => V m c main_v51 (ix3 (ea m (sn t)) f n))
          (fun k f => V m c main_v49 (ix3 (eb m (sn t)) k f)) (fun k f => V m c main_v50 (ix3 (eb m (sn t)) k f)) (fun f n => V m c main_v51 (ix3 (eb m (sn t)) f n)) n := by
  unfold outAt ent
  by_cases h : On m (sn t)
  · rw [if_pos ((cond_on m t).mpr h), if_pos h]
    refine (on_at (iblk m (ok m) c 0 t) (iblk m (ok m) c 1 t) (iblk m (ok m) c 2 t) (iblk m (ok m) c 3 t) (iblk m (ok m) c 4 t) (iblk m (ok m) c 5 t) (iblk m (ok m) c 6 t) r n).trans ?_
    simp only [iblk]
    refine congr (congr (congr (congr (congr (congr (congr (congr (congr (congrArg mix ?_) ?_) ?_) ?_) ?_) ?_) ?_) ?_) ?_) rfl
    · exact funext fun k => blk0 m t (V m c main_arg1) r _
    · exact blk0 m t (V m c main_arg1) r _
    · exact blk0 m t (V m c main_arg1) r _
    · exact funext fun k => funext fun f => blk1 m t (V m c main_v49) k f
    · exact funext fun k => funext fun f => blk3 m t (V m c main_v50) k f
    · exact funext fun k => funext fun f => blk5 m t (V m c main_v51) k f
    · exact funext fun k => funext fun f => blk2 m t (V m c main_v49) k f
    · exact funext fun k => funext fun f => blk4 m t (V m c main_v50) k f
    · exact funext fun k => funext fun f => blk6 m t (V m c main_v51) k f
  · rw [if_neg fun h' => h ((cond_on m t).mp h'), if_neg h]; exact off_at r n

/-- The blocks written back cover the result array. -/
theorem covers : ((CF).win 7).Covers := by
  refine ⟨fun a => ?_, fun β => ⟨⟨(β ⟨0, Nat.zero_lt_two⟩).val, show _ < 168 from lt_of_lt_of_eq (β ⟨0, Nat.zero_lt_two⟩).isLt ((show _ = (43008 + 256 - 1) / 256 from rfl).trans (by decide))⟩, flush7 m _, fun a => ⟨?_, .inl rfl⟩⟩⟩
  · match a with
    | ⟨0, _⟩ => exact (show 0 < 256 by decide)
    | ⟨1, _⟩ => exact (show 0 < 1024 by decide)
  · refine Eq.trans (show _ = cc0_transform_7 (grid0.coords _) a from rfl) ?_
    rw [tr7]
    match a with
    | ⟨0, _⟩ => rfl
    | ⟨1, h⟩ => exact (Nat.lt_one_iff.mp (lt_of_lt_of_eq (β ⟨1, h⟩).isLt ((show _ = (1024 + 1024 - 1) / 1024 from rfl).trans (by decide)))).symm

/-- A step's block agrees with `GM` at the place the block is written to. -/
theorem outAt_GM (c : Dev nD) (t : Fin grid0.N) (y : S256x1024.Idx) (i : S43008x1024.Idx)
    (hi0 : (i 0).val = t.val * 256 + 1 * (y 0).val) (hi1 : (i 1).val = 0 * 1024 + 1 * (y 1).val) :
    outAt m (ok m) c t y = GM m (V m c main_arg1) (V m c main_v49) (V m c main_v50) (V m c main_v51) i := by
  have ht := tlt t
  have hy0 : (y 0).val < 256 := (y 0).isLt
  refine (congrArg (outAt m (ok m) c t) (eq_ix2 y)).trans ((outAt_at m c t _ _).trans ?_)
  have eb0 : sn t = bk (i 0) := Fin.ext (show t.val = (i 0).val / 256 by rw [hi0]; omega)
  have er : (⟨256 * t.val + (y 0).val, by omega⟩ : Fin 43008) = i 0 := Fin.ext (show 256 * t.val + (y 0).val = (i 0).val by rw [hi0]; omega)
  have en : y 1 = i 1 := Fin.ext (show (y 1).val = (i 1).val by rw [hi1]; omega)
  unfold GM
  rw [← eb0, ← er, en]

end Cert.Moe

end
-- ==== Proof.MoeFinal.lean ====
/-
  The experts' result array after the run.
-/
module

public import proofs.«01_k».proof.Proof.MoeArray

@[expose] public section

set_option maxRecDepth 16384

noncomputable section

namespace Cert.Moe

open Cert.Kernel2Ideal Cert.Kernel2Ideal.Gen Idealize.ShloMosaic Idealize.ShloMosaic.TcCoe Idealize.SL.Sem

variable (m : (ℓ : Loc nD τ sig) → Buf (Elt Ideal) ℓ)

/-- THE ARRAY the call leaves: `GM` of the arrays it reads. -/
theorem final (c : Dev nD) : (dats m (ok m) 0 c).arrAt 7 (cfgM m (ok m)).N = GM m (V m c main_arg1) (V m c main_v49) (V m c main_v50) (V m c main_v51) := by
  refine (dats m (ok m) 0 c).arrAt_eq_of_covers 7 _ (covers m) fun t _ y => ?_
  refine (cast_eq rfl _).trans ((congrFun (after0_7 m (ok m) c t) _).trans (outAt_GM m c t _ _ ?_ ?_))
  · refine Eq.trans (show _ = cc0_transform_7 (grid0.coords t) 0 * 256 + 1 * _ from rfl) ?_
    rw [tr7]; rfl
  · refine Eq.trans (show _ = cc0_transform_7 (grid0.coords t) 1 * 1024 + 1 * _ from rfl) ?_
    rw [tr7]; rfl

end Cert.Moe

end
-- ==== Proof.MoeHost.lean ====
/-
  The weights' arrays the experts read: the argument arrays, a change of float format changing nothing.
-/
module

public import proofs.«01_k».proof.Proof.MoeFinal

@[expose] public section

set_option maxRecDepth 16384

noncomputable section

namespace Cert.Moe

open Cert.Kernel2Ideal Cert.Kernel2Ideal.Gen Idealize.ShloMosaic Idealize.ShloMosaic.TcCoe Idealize.SL.Sem

variable (m : (ℓ : Loc nD τ sig) → Buf (Elt Ideal) ℓ)

/-- A change of float format changes no value. -/
theorem cast_id {s : Shape} (x : FVec Ideal s .f32) : (truncf .bf16 x bitsLt_bf16_f32 : FVec Ideal s .bf16) = x := rfl

set_option maxHeartbeats 1000000

/-- The weights the call reads are an argument array. -/
theorem V_main_v49 (c : Dev nD) : V m c main_v49 = m ((c : Thread nD τ).loc main_arg2) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- The weights the call reads are an argument array. -/
theorem V_main_v50 (c : Dev nD) : V m c main_v50 = m ((c : Thread nD τ).loc main_arg3) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- The weights the call reads are an argument array. -/
theorem V_main_v51 (c : Dev nD) : V m c main_v51 = m ((c : Thread nD τ).loc main_arg4) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

end Cert.Moe

end
-- ==== Proof.MoeRef.lean ====
/-
  The reference's experts read at an index: each block's two experts, their outputs weighted and added.
-/
module

public import proofs.«01_k».proof.Proof.Gen.Reference2Ideal.Run
public import proofs.«01_k».proof.Proof.MoeOut
public import Idealize.ShloMosaic.Lib.Pointwise
public import Idealize.ShloMosaic.Lib.Routing.Ops

@[expose] public section

set_option maxRecDepth 16384

noncomputable section

namespace Cert.Reference2Ideal.Moe

open Cert.Reference2Ideal Cert.Reference2Ideal.Gen Idealize.ShloMosaic Idealize.ShloMosaic.TcCoe Idealize.SL.Sem

/-- A column of expert numbers, negative ones counted from the end. -/
def widx (v : IVec S168 32) : IVec S168x1 32 :=
  broadcastInDim S168x1 ![0] bcast_S168_S168x1_0 (select (cmpi .slt v (broadcastInDim S168 ![] bcast_S_S168 (constantI S_ 32 0#32))) (addi v (broadcastInDim S168 ![] bcast_S_S168 (constantI S_ 32 16#32))) v)

/-- An expert number is not negative, so it stays. -/
theorem widx_at (v : IVec S168 32) (b : Fin 168) (e : Fin 16) (h : v (ix1 b) = BitVec.ofNat 32 e.val) : widx v (ix2 b 0) = BitVec.ofNat 32 e.val := by
  have e1 : widx v (ix2 b 0) = (if IntOp.cmpi .slt (v (ix1 b)) 0#32 = 1#1 then v (ix1 b) + 16#32 else v (ix1 b)) := by
    unfold widx
    pointwise
    rfl
  rw [e1, h]
  clear h e1
  revert e
  decide

/-- One expert per block: the gated product of its two hidden projections, projected down. -/
def EXP (H : FVec Ideal S168x256x1024 .f32) (G U : FVec Ideal S168x1024x512 .f32) (D : FVec Ideal S168x512x1024 .f32) : FVec Ideal S168x256x1024 .f32 :=
  Host.dotGeneral dot_S168x256x512_S168x512x1024_S168x256x1024_2_1_1_2_0_0 none (mulf (mulf (Host.dotGeneral dot_S168x256x1024_S168x1024x512_S168x256x512_2_1_1_2_0_0 none H G) (Host.divf (broadcastInDim S168x256x512 ![] bcast_S_S168x256x512 (constant S_ .f32 0x3F800000#32)) (addf (broadcastInDim S168x256x512 ![] bcast_S_S168x256x512 (constant S_ .f32 0x3F800000#32)) (Host.exp (Host.negf (Host.dotGeneral dot_S168x256x1024_S168x1024x512_S168x256x512_2_1_1_2_0_0 none H G)))))) (Host.dotGeneral dot_S168x256x1024_S168x1024x512_S168x256x512_2_1_1_2_0_0 none H U)) D

/-- The hidden projection at an index. -/
theorem hid_at (H : FVec Ideal S168x256x1024 .f32) (G : FVec Ideal S168x1024x512 .f32) (b : Fin 168) (r : Fin 256) (f : Fin 512) :
    Host.dotGeneral dot_S168x256x1024_S168x1024x512_S168x256x512_2_1_1_2_0_0 none H G (ix3 b r f) = ∑ k : Fin 1024, (H (ix3 b r k) : EReal) * G (ix3 b k f) := by
  pointwise

/-- The gated product projected down, over any hidden projections. -/
theorem down_at (g u : FVec Ideal S168x256x512 .f32) (D : FVec Ideal S168x512x1024 .f32) (b : Fin 168) (r : Fin 256) (n : Fin 1024) :
    Host.dotGeneral dot_S168x256x512_S168x512x1024_S168x256x1024_2_1_1_2_0_0 none (mulf (mulf g (Host.divf (broadcastInDim S168x256x512 ![] bcast_S_S168x256x512 (constant S_ .f32 0x3F800000#32)) (addf (broadcastInDim S168x256x512 ![] bcast_S_S168x256x512 (constant S_ .f32 0x3F800000#32)) (Host.exp (Host.negf g))))) u) D (ix3 b r n)
      = ∑ f : Fin 512, ((g (ix3 b r f) : EReal) * Ideal.div 1 (1 + Ideal.exp (-(g (ix3 b r f) : EReal))) * u (ix3 b r f)) * D (ix3 b f n) := by
  pointwise

/-- An expert's output at an index. -/
theorem EXP_at (H : FVec Ideal S168x256x1024 .f32) (G U : FVec Ideal S168x1024x512 .f32) (D : FVec Ideal S168x512x1024 .f32) (b : Fin 168) (r : Fin 256) (n : Fin 1024) :
    EXP H G U D (ix3 b r n) = ∑ f, Cert.Moe.act (fun k => H (ix3 b r k)) (fun k f => G (ix3 b k f)) (fun k f => U (ix3 b k f)) f * D (ix3 b f n) := by
  unfold EXP
  rw [down_at]
  simp only [hid_at, Cert.Moe.act, zero_sub]

/-- The reference's result, over the blocks in use and the gathered weights. -/
def REFV (on : IVec S168 1) (x : FVec Ideal S43008x1152 .f32) (Ga Ua : FVec Ideal S168x1024x512 .f32) (Da : FVec Ideal S168x512x1024 .f32)
    (Gb Ub : FVec Ideal S168x1024x512 .f32) (Db : FVec Ideal S168x512x1024 .f32) : FVec Ideal S43008x1024 .f32 :=
  shapeCast _ (select (broadcastInDim S168x256x1024 ![0, 1, 2] bcast_S168x1x1_S168x256x1024_0_1_2 (broadcastInDim S168x1x1 ![0] bcast_S168_S168x1x1_0 on))
    (addf (mulf (broadcastInDim S168x256x1024 ![0, 1, 2] bcast_S168x256x1_S168x256x1024_0_1_2 (extractStridedSlice S168x256x1 ![0, 0, 0] (extractStridedSlice S168x256x2 ![0, 0, 1024] (shapeCast S168x256x1152 x shapeCasts_S43008x1152_S168x256x1152) slices_S168x256x1152_S168x256x2_0_0_1024) slices_S168x256x2_S168x256x1_0_0_0))
        (EXP (extractStridedSlice S168x256x1024 ![0, 0, 0] (shapeCast S168x256x1152 x shapeCasts_S43008x1152_S168x256x1152) slices_S168x256x1152_S168x256x1024_0_0_0) Ga Ua Da))
      (mulf (broadcastInDim S168x256x1024 ![0, 1, 2] bcast_S168x256x1_S168x256x1024_0_1_2 (extractStridedSlice S168x256x1 ![0, 0, 1] (extractStridedSlice S168x256x2 ![0, 0, 1024] (shapeCast S168x256x1152 x shapeCasts_S43008x1152_S168x256x1152) slices_S168x256x1152_S168x256x2_0_0_1024) slices_S168x256x2_S168x256x1_0_0_1))
        (EXP (extractStridedSlice S168x256x1024 ![0, 0, 0] (shapeCast S168x256x1152 x shapeCasts_S43008x1152_S168x256x1152) slices_S168x256x1152_S168x256x1024_0_0_0) Gb Ub Db)))
    (broadcastInDim S168x256x1024 ![] bcast_S_S168x256x1024 (id (constant S_ .f32 0x00000000#32)))) shapeCasts_S168x256x1024_S43008x1024

/-- The tokens, block by block. -/
theorem tok_at (x : FVec Ideal S43008x1152 .f32) (b : Fin 168) (r : Fin 256) (k : Fin 1024) :
    extractStridedSlice S168x256x1024 ![0, 0, 0] (shapeCast S168x256x1152 x shapeCasts_S43008x1152_S168x256x1152) slices_S168x256x1152_S168x256x1024_0_0_0 (ix3 b r k)
      = x (ix2 ⟨b.val * 256 + r.val, by omega⟩ ⟨k.val, by omega⟩) := by
  pointwise

/-- The blocks' choice and weighting, over any two arrays. -/
theorem pick_at (on : IVec S168 1) (x : FVec Ideal S43008x1152 .f32) (p q : FVec Ideal S168x256x1024 .f32) (b : Fin 168) (r : Fin 256) (n : Fin 1024) :
    shapeCast S43008x1024 (select (broadcastInDim S168x256x1024 ![0, 1, 2] bcast_S168x1x1_S168x256x1024_0_1_2 (broadcastInDim S168x1x1 ![0] bcast_S168_S168x1x1_0 on))
    (addf (mulf (broadcastInDim S168x256x1024 ![0, 1, 2] bcast_S168x256x1_S168x256x1024_0_1_2 (extractStridedSlice S168x256x1 ![0, 0, 0] (extractStridedSlice S168x256x2 ![0, 0, 1024] (shapeCast S168x256x1152 x shapeCasts_S43008x1152_S168x256x1152) slices_S168x256x1152_S168x256x2_0_0_1024) slices_S168x256x2_S168x256x1_0_0_0))
        p)
      (mulf (broadcastInDim S168x256x1024 ![0, 1, 2] bcast_S168x256x1_S168x256x1024_0_1_2 (extractStridedSlice S168x256x1 ![0, 0, 1] (extractStridedSlice S168x256x2 ![0, 0, 1024] (shapeCast S168x256x1152 x shapeCasts_S43008x1152_S168x256x1152) slices_S168x256x1152_S168x256x2_0_0_1024) slices_S168x256x2_S168x256x1_0_0_1))
        q))
    (broadcastInDim S168x256x1024 ![] bcast_S_S168x256x1024 (id (constant S_ .f32 0x00000000#32)))) shapeCasts_S168x256x1024_S43008x1024 (ix2 ⟨b.val * 256 + r.val, by omega⟩ n)
      = if on (ix1 b) = 1#1 then (x (ix2 ⟨b.val * 256 + r.val, by omega⟩ 1024) : EReal) * p (ix3 b r n) + x (ix2 ⟨b.val * 256 + r.val, by omega⟩ 1025) * q (ix3 b r n) else 0 := by
  simp only [id]
  pointwise
  rfl

/-- The reference's result at an index. -/
theorem REFV_at (on : IVec S168 1) (x : FVec Ideal S43008x1152 .f32) (Ga Ua : FVec Ideal S168x1024x512 .f32) (Da : FVec Ideal S168x512x1024 .f32)
    (Gb Ub : FVec Ideal S168x1024x512 .f32) (Db : FVec Ideal S168x512x1024 .f32) (b : Fin 168) (r : Fin 256) (n : Fin 1024) :
    REFV on x Ga Ua Da Gb Ub Db (ix2 ⟨b.val * 256 + r.val, by omega⟩ n)
      = if on (ix1 b) = 1#1 then
          (x (ix2 ⟨b.val * 256 + r.val, by omega⟩ 1024) : EReal) * ∑ f, Cert.Moe.act (fun k => x (ix2 ⟨b.val * 256 + r.val, by omega⟩ ⟨k.val, by omega⟩)) (fun k f => Ga (ix3 b k f)) (fun k f => Ua (ix3 b k f)) f * Da (ix3 b f n)
            + x (ix2 ⟨b.val * 256 + r.val, by omega⟩ 1025) * ∑ f, Cert.Moe.act (fun k => x (ix2 ⟨b.val * 256 + r.val, by omega⟩ ⟨k.val, by omega⟩)) (fun k f => Gb (ix3 b k f)) (fun k f => Ub (ix3 b k f)) f * Db (ix3 b f n)
        else 0 := by
  unfold REFV
  refine (pick_at on x _ _ b r n).trans ?_
  simp only [EXP_at, tok_at]

end Cert.Reference2Ideal.Moe

end
-- ==== Proof.MoeGat.lean ====
/-
  The gathers of the reference at an index.
-/
module

public import proofs.«01_k».proof.Proof.Gen.Reference2Ideal.Run
public import proofs.«01_k».proof.Proof.MoeTables
public import Idealize.ShloMosaic.Lib.Pointwise
public import Idealize.ShloMosaic.Lib.Routing.Ops

@[expose] public section

set_option maxRecDepth 16384

noncomputable section

namespace Cert.Reference2Ideal.Moe

open Cert.Reference2Ideal Cert.Reference2Ideal.Gen Idealize.ShloMosaic Idealize.ShloMosaic.TcCoe Idealize.SL.Sem

/-- The weights' gather reads an expert's rows. -/
theorem gat_at (x : S16x1024x512.Idx → EReal) (idx : IVec S168x1 32) (b : Fin 168) (k : Fin 1024) (f : Fin 512) (e : Fin 16) (he : idx (ix2 b 0) = BitVec.ofNat 32 e.val) :
    Host.gather gather_S16x1024x512_S168x1_S168x1024x512_12_0_n_n_0_1_11024512 x idx (ix3 b k f) = x (ix3 e k f) := by
  unfold Host.gather
  refine congrArg x (funext fun a => Fin.ext ?_)
  match a with
  | ⟨0, _⟩ =>
    have hsi : gather_S16x1024x512_S168x1_S168x1024x512_12_0_n_n_0_1_11024512.siIdx (ix3 b k f) ⟨0, by decide⟩ = ix2 b 0 := by
      funext a
      match a with
      | ⟨0, _⟩ => rfl
      | ⟨1, _⟩ => rfl
    show min ((idx (gather_S16x1024x512_S168x1_S168x1024x512_12_0_n_n_0_1_11024512.siIdx (ix3 b k f) ⟨0, by decide⟩)).toInt.toNat) (16 - 1) + 0 + 0 = e.val
    rw [hsi, he]
    clear he
    revert e
    decide
  | ⟨1, _⟩ => show 0 + 0 + k.val = k.val; omega
  | ⟨2, _⟩ => show 0 + 0 + f.val = f.val; omega

/-- The down projections' gather reads an expert's rows. -/
theorem gatD_at (x : S16x512x1024.Idx → EReal) (idx : IVec S168x1 32) (b : Fin 168) (k : Fin 512) (f : Fin 1024) (e : Fin 16) (he : idx (ix2 b 0) = BitVec.ofNat 32 e.val) :
    Host.gather gather_S16x512x1024_S168x1_S168x512x1024_12_0_n_n_0_1_15121024 x idx (ix3 b k f) = x (ix3 e k f) := by
  unfold Host.gather
  refine congrArg x (funext fun a => Fin.ext ?_)
  match a with
  | ⟨0, _⟩ =>
    have hsi : gather_S16x512x1024_S168x1_S168x512x1024_12_0_n_n_0_1_15121024.siIdx (ix3 b k f) ⟨0, by decide⟩ = ix2 b 0 := by
      funext a
      match a with
      | ⟨0, _⟩ => rfl
      | ⟨1, _⟩ => rfl
    show min ((idx (gather_S16x512x1024_S168x1_S168x512x1024_12_0_n_n_0_1_15121024.siIdx (ix3 b k f) ⟨0, by decide⟩)).toInt.toNat) (16 - 1) + 0 + 0 = e.val
    rw [hsi, he]
    clear he
    revert e
    decide
  | ⟨1, _⟩ => show 0 + 0 + k.val = k.val; omega
  | ⟨2, _⟩ => show 0 + 0 + f.val = f.val; omega

/-- A class is not negative, so it stays. -/
theorem cidx_at (v : IVec S168 32) (b : Fin 168) (k : Fin 24) (h : v (ix1 b) = BitVec.ofNat 32 k.val) :
    broadcastInDim S168x1 ![0] bcast_S168_S168x1_0 (select (cmpi .slt v (broadcastInDim S168 ![] bcast_S_S168 (constantI S_ 32 0#32))) (addi v (broadcastInDim S168 ![] bcast_S_S168 (constantI S_ 32 24#32))) v) (ix2 b 0) = BitVec.ofNat 32 k.val := by
  refine Eq.trans (b := if IntOp.cmpi .slt (v (ix1 b)) 0#32 = 1#1 then v (ix1 b) + 24#32 else v (ix1 b)) ?_ ?_
  · pointwise
    rfl
  · rw [h]
    clear h
    revert k
    decide

/-- The pair a block of class `k` reads. -/
theorem pair_at (v : IVec S168 32) (b : Fin 168) (y : Fin 2) (k : Fin 24) (h : v (ix1 b) = BitVec.ofNat 32 k.val) :
    Host.gather gather_S24x2_S168x1_S168x2_1_0_n_n_0_1_12 (fun i => lit0 (S24x2.rowMajor i)) (broadcastInDim S168x1 ![0] bcast_S168_S168x1_0 (select (cmpi .slt v (broadcastInDim S168 ![] bcast_S_S168 (constantI S_ 32 0#32))) (addi v (broadcastInDim S168 ![] bcast_S_S168 (constantI S_ 32 24#32))) v)) (ix2 b y)
      = lit0 (S24x2.rowMajor (ix2 k y)) :=
  Routing.gather_row gather_S24x2_S168x1_S168x2_1_0_n_n_0_1_12 rfl rfl rfl rfl rfl (fun i => lit0 (S24x2.rowMajor i)) _ b y k (cidx_at v b k h) (by decide)

/-- The first column of a pair table. -/
theorem col0_at (t : IVec S168x2 32) (b : Fin 168) : shapeCast S168 (extractStridedSlice S168x1 ![0, 0] t slices_S168x2_S168x1_0_0) shapeCasts_S168x1_S168 (ix1 b) = t (ix2 b 0) := by
  pointwise

/-- The second column of a pair table. -/
theorem col1_at (t : IVec S168x2 32) (b : Fin 168) : shapeCast S168 (extractStridedSlice S168x1 ![0, 1] t slices_S168x2_S168x1_0_1) shapeCasts_S168x1_S168 (ix1 b) = t (ix2 b 1) := by
  pointwise

/-- The pair table at a row. -/
theorem lit_at : ∀ (k : Fin 24), lit0 (S24x2.rowMajor (ix2 k 0)) = BitVec.ofNat 32 (4 * (k.val / 6) + Cert.Moe.pa ⟨k.val % 6, Nat.mod_lt _ (by decide)⟩)
    ∧ lit0 (S24x2.rowMajor (ix2 k 1)) = BitVec.ofNat 32 (4 * (k.val / 6) + Cert.Moe.pb ⟨k.val % 6, Nat.mod_lt _ (by decide)⟩) := by decide +kernel

end Cert.Reference2Ideal.Moe

end
-- ==== Proof.MoeRes.lean ====
/-
  The reference's result as a function of its blocks' classes.
-/
module

public import proofs.«01_k».proof.Proof.Gen.Reference2Ideal.Run
public import proofs.«01_k».proof.Proof.MoeTables
public import proofs.«01_k».proof.Proof.MoeRef
public import proofs.«01_k».proof.Proof.MoeGat
public import Idealize.ShloMosaic.Lib.Pointwise
public import Idealize.ShloMosaic.Lib.Routing.Ops

@[expose] public section

set_option maxRecDepth 16384

noncomputable section

namespace Cert.Reference2Ideal.Moe

open Cert.Reference2Ideal Cert.Reference2Ideal.Gen Idealize.ShloMosaic Idealize.ShloMosaic.TcCoe Idealize.SL.Sem

/-- The pairs of experts the table gives the blocks' classes. -/
def TAB (v : IVec S168 32) : IVec S168x2 32 :=
  Host.gather gather_S24x2_S168x1_S168x2_1_0_n_n_0_1_12 ((fun i => lit0 (S24x2.rowMajor i))) (broadcastInDim S168x1 ![0] bcast_S168_S168x1_0 (select (cmpi .slt v (broadcastInDim S168 ![] bcast_S_S168 (constantI S_ 32 0#32))) (addi v (broadcastInDim S168 ![] bcast_S_S168 (constantI S_ 32 24#32))) v))

/-- The blocks' first experts. -/
def colA (v : IVec S168 32) : IVec S168 32 :=
  shapeCast S168 (extractStridedSlice S168x1 ![0, 0] (TAB v) slices_S168x2_S168x1_0_0) shapeCasts_S168x1_S168
/-- The blocks' second experts. -/
def colB (v : IVec S168 32) : IVec S168 32 :=
  shapeCast S168 (extractStridedSlice S168x1 ![0, 1] (TAB v) slices_S168x2_S168x1_0_1) shapeCasts_S168x1_S168

/-- The reference's result, from the blocks in use, their classes, and the other arrays it takes. -/
def REF (on : IVec S168 1) (v : IVec S168 32) (x : FVec Ideal S43008x1152 .f32) (A B : FVec Ideal S16x1024x512 .f32) (C : FVec Ideal S16x512x1024 .f32) : FVec Ideal S43008x1024 .f32 :=
  REFV on x
    (Host.gather gather_S16x1024x512_S168x1_S168x1024x512_12_0_n_n_0_1_11024512 A (widx (colA v)))
    (Host.gather gather_S16x1024x512_S168x1_S168x1024x512_12_0_n_n_0_1_11024512 B (widx (colA v)))
    (Host.gather gather_S16x512x1024_S168x1_S168x512x1024_12_0_n_n_0_1_15121024 C (widx (colA v)))
    (Host.gather gather_S16x1024x512_S168x1_S168x1024x512_12_0_n_n_0_1_11024512 A (widx (colB v)))
    (Host.gather gather_S16x1024x512_S168x1_S168x1024x512_12_0_n_n_0_1_11024512 B (widx (colB v)))
    (Host.gather gather_S16x512x1024_S168x1_S168x512x1024_12_0_n_n_0_1_15121024 C (widx (colB v)))

/-- The blocks in use, as the run computes them. -/
def ON (V0 : Valuation τ sig (Elt Ideal)) : IVec S168 1 := (cmpi .slt (Value.res_main_v10 V0) (broadcastInDim S168 ![] bcast_S_S168 (shapeCast S_ (extractStridedSlice S1 ![23] (Value.res_main_v7 V0) slices_S24_S1_23) shapeCasts_S1_S_)))

/-- The run's classes are the kernel's. -/
theorem cls_eq (V0 : Valuation τ sig (Elt Ideal)) : Value.res_main_v19 V0 = Cert.Moe.cls (V0 (Proc.devRef .tc main_arg0)) := rfl

/-- The run's blocks in use are the kernel's. -/
theorem on_eq (V0 : Valuation τ sig (Elt Ideal)) : ON V0 = Cert.Moe.use1 (V0 (Proc.devRef .tc main_arg0)) := rfl

/-- THE RUN leaves `REF` of its arguments, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107) = REF (Cert.Moe.use1 (m ((c.tc : Thread nD τ).loc main_arg0))) (Cert.Moe.cls (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans
      ((show _ = REF (ON (StableHlo.launchContents m c)) (Value.res_main_v19 (StableHlo.launchContents m c)) (m ((c.tc : Thread nD τ).loc main_arg1)) (m ((c.tc : Thread nD τ).loc main_arg2)) (m ((c.tc : Thread nD τ).loc main_arg3)) (m ((c.tc : Thread nD τ).loc main_arg4)) from rfl).trans
        (by rw [on_eq, cls_eq])), (h c).2⟩)
    (Value.run (F := Ideal) m ρ)

end Cert.Reference2Ideal.Moe

end
-- ==== Proof.MoeEq.lean ====
/-
  The experts' call and its reference leave the same array, where the routing weights are finite and not negative.
-/
module

public import proofs.«01_k».proof.Proof.MoeHost
public import proofs.«01_k».proof.Proof.MoeRes
public import proofs.«01_k».proof.Proof.SoftmaxCore
public import Idealize.ShloMosaic.Lib.ReduceAll
public import proofs.«01_k».proof.Pre_route_ok

@[expose] public section

set_option maxRecDepth 16384

noncomputable section

namespace Cert.Moe

open Cert.Kernel2Ideal Cert.Kernel2Ideal.Gen Idealize.ShloMosaic Idealize.ShloMosaic.TcCoe Idealize.SL.Sem

variable (m : (ℓ : Loc nD τ sig) → Buf (Elt Ideal) ℓ)

/-- A weight that is finite and not negative may be applied before the sum or after it. -/
theorem wsum (a d : Fin 512 → EReal) (w : EReal) (h0 : 0 ≤ w) (ht : w ≠ ⊤) : ∑ f, a f * w * d f = w * ∑ f, a f * d f := by
  have hb : w ≠ ⊥ := fun h => by rw [h] at h0; exact absurd h0 (by simp)
  lift w to ℝ using ⟨ht, hb⟩
  rw [mul_comm (w : EReal), Cert.Softmax.sum_mul_coe _ _ (EReal.coe_nonneg.1 h0)]
  exact Finset.sum_congr rfl fun f _ => mul_right_comm _ _ _

/-- The two experts' weighted outputs, the weights applied after the down projections. -/
theorem mix_eq (H : Fin 1024 → EReal) (wa wb : EReal) (Ga Ua : Fin 1024 → Fin 512 → EReal) (Da : Fin 512 → Fin 1024 → EReal)
    (Gb Ub : Fin 1024 → Fin 512 → EReal) (Db : Fin 512 → Fin 1024 → EReal) (n : Fin 1024) (ha : 0 ≤ wa ∧ wa ≠ ⊤) (hb : 0 ≤ wb ∧ wb ≠ ⊤) :
    mix H wa wb Ga Ua Da Gb Ub Db n = wa * ∑ f, act H Ga Ua f * Da f n + wb * ∑ f, act H Gb Ub f * Db f n := by
  unfold mix
  rw [wsum _ (fun f => Da f n) wa ha.1 ha.2, wsum _ (fun f => Db f n) wb hb.1 hb.2]

open Cert.Reference2Ideal.Moe

/-- The reference's first expert of a block is the kernel's. -/
theorem colA_at (b : Fin 168) : colA (cls (cnt m)) (ix1 b) = BitVec.ofNat 32 (ea m b).val := by
  obtain ⟨k, hk⟩ := cls_at (cnt m) b
  refine (col0_at _ b).trans ((pair_at _ b 0 k hk).trans ((lit_at k).1.trans ?_))
  refine (expert_at ta pa ta_at _ b k hk).symm.trans ?_
  show _ = BitVec.ofNat 32 (expert ta (cls (cnt m)) (Idealize.ShloMosaic.ValueIdx.ix1 b)).toNat
  rw [BitVec.ofNat_toNat, BitVec.setWidth_eq]

/-- The reference's second expert of a block is the kernel's. -/
theorem colB_at (b : Fin 168) : colB (cls (cnt m)) (ix1 b) = BitVec.ofNat 32 (eb m b).val := by
  obtain ⟨k, hk⟩ := cls_at (cnt m) b
  refine (col1_at _ b).trans ((pair_at _ b 1 k hk).trans ((lit_at k).2.trans ?_))
  refine (expert_at tb pb tb_at _ b k hk).symm.trans ?_
  show _ = BitVec.ofNat 32 (expert tb (cls (cnt m)) (Idealize.ShloMosaic.ValueIdx.ix1 b)).toNat
  rw [BitVec.ofNat_toNat, BitVec.setWidth_eq]

/-- One entry of the reference's result is the kernel's. -/
theorem ref_ent (x : FVec Ideal S43008x1152 .f32) (A B : FVec Ideal S16x1024x512 .f32) (C : FVec Ideal S16x512x1024 .f32)
    (hw : ∀ j : Fin 43008, ((0 : EReal) ≤ x (ix2 j 1024) ∧ (x (ix2 j 1024) : EReal) ≠ ⊤) ∧ ((0 : EReal) ≤ x (ix2 j 1025) ∧ (x (ix2 j 1025) : EReal) ≠ ⊤))
    (b : Fin 168) (r : Fin 256) (n : Fin 1024) :
    REF (use1 (cnt m)) (cls (cnt m)) x A B C (ix2 ⟨b.val * 256 + r.val, by omega⟩ n)
      = ent (On m b) (fun k => x (ix2 ⟨b.val * 256 + r.val, by omega⟩ k)) (fun k f => A (ix3 (ea m b) k f)) (fun k f => B (ix3 (ea m b) k f)) (fun f n => C (ix3 (ea m b) f n))
          (fun k f => A (ix3 (eb m b) k f)) (fun k f => B (ix3 (eb m b) k f)) (fun f n => C (ix3 (eb m b) f n)) n := by
  refine (REFV_at _ _ _ _ _ _ _ _ b r n).trans ?_
  unfold ent
  refine if_congr Iff.rfl ?_ rfl
  rw [mix_eq _ _ _ _ _ _ _ _ _ _ (hw _).1 (hw _).2]
  have ha := widx_at (colA (cls (cnt m))) b (ea m b) (colA_at m b)
  have hb := widx_at (colB (cls (cnt m))) b (eb m b) (colB_at m b)
  simp only [gat_at _ _ b _ _ _ ha, gat_at _ _ b _ _ _ hb, gatD_at _ _ b _ _ _ ha, gatD_at _ _ b _ _ _ hb]

/-- THE REFERENCE leaves `GM` of its arrays. -/
theorem REF_eq (x : FVec Ideal S43008x1152 .f32) (A B : FVec Ideal S16x1024x512 .f32) (C : FVec Ideal S16x512x1024 .f32)
    (hw : ∀ j : Fin 43008, ((0 : EReal) ≤ x (ix2 j 1024) ∧ (x (ix2 j 1024) : EReal) ≠ ⊤) ∧ ((0 : EReal) ≤ x (ix2 j 1025) ∧ (x (ix2 j 1025) : EReal) ≠ ⊤)) :
    REF (use1 (cnt m)) (cls (cnt m)) x A B C = GM m x A B C := by
  refine funext fun (i : S43008x1024.Idx) => ?_
  have hi := (i 0).isLt
  have e0 : (⟨(bk (i 0)).val * 256 + (i 0).val % 256, by have := (bk (i 0)).isLt; omega⟩ : Fin 43008) = i 0 :=
    Fin.ext (show (i 0).val / 256 * 256 + (i 0).val % 256 = (i 0).val by omega)
  have ei : i = ix2 (⟨(bk (i 0)).val * 256 + (i 0).val % 256, by have := (bk (i 0)).isLt; omega⟩ : Fin 43008) (i 1) :=
    (eq_ix2 i).trans (congrArg (fun j => (ix2 j (i 1) : S43008x1024.Idx)) e0.symm)
  refine (congrArg (REF (use1 (cnt m)) (cls (cnt m)) x A B C) ei).trans ((ref_ent m x A B C hw (bk (i 0)) ⟨(i 0).val % 256, Nat.mod_lt _ (by decide)⟩ (i 1)).trans ?_)
  unfold GM
  exact congrArg (fun j => ent (On m (bk (i 0))) (fun k => x (ix2 j k)) _ _ _ _ _ _ (i 1)) e0

/-- The pattern of infinity denotes `⊤`. -/
theorem ofBits_inf : Ideal.ofBits .f32 0x7F800000#32 = ⊤ := by simp [Ideal.ofBits, Ideal.ieee]

/-- Entries the precondition's comparisons admit are finite and not negative. -/
theorem weight_of (x : FVec Ideal S43008x1152 .f32) [Cert.Pre_route_ok.Facts] (j : Fin 43008) (e : Fin 2)
    (h : cmpf .oge (extractStridedSlice Cert.Pre_route_ok.S43008x2 ![0, 1024] x Cert.Pre_route_ok.Facts.slices_S43008x1152_S43008x2_0_1024) (broadcastInDim Cert.Pre_route_ok.S43008x2 ![] Cert.Pre_route_ok.Facts.bcast_S_S43008x2 (constant Cert.Pre_route_ok.S_ .f32 0x00000000#32)) (ix2 j e) = 1#1)
    (h' : cmpf .olt (extractStridedSlice Cert.Pre_route_ok.S43008x2 ![0, 1024] x Cert.Pre_route_ok.Facts.slices_S43008x1152_S43008x2_0_1024) (broadcastInDim Cert.Pre_route_ok.S43008x2 ![] Cert.Pre_route_ok.Facts.bcast_S_S43008x2 (constant Cert.Pre_route_ok.S_ .f32 0x7F800000#32)) (ix2 j e) = 1#1) :
    (0 : EReal) ≤ x (ix2 j ⟨1024 + e.val, by omega⟩) ∧ (x (ix2 j ⟨1024 + e.val, by omega⟩) : EReal) ≠ ⊤ := by
  constructor
  · revert h
    pointwise
    intro h
    by_contra hn
    rw [decide_eq_false hn] at h
    exact absurd h (by decide)
  · revert h'
    pointwise
    rw [ofBits_inf]
    intro h
    refine ne_of_lt ?_
    by_contra hn
    rw [decide_eq_false hn] at h
    exact absurd h (by decide)

/-- The precondition makes every routing weight finite and not negative. -/
theorem weights [Cert.Pre_route_ok.Facts] (n : IVec S24 32) (x : FVec Ideal S43008x1152 .f32) (A B : FVec Ideal S16x1024x512 .f32) (C : FVec Ideal S16x512x1024 .f32)
    (h : Cert.Pre_route_ok.fn (F := Ideal) n x A B C = fun _ => 1#1) (j : Fin 43008) :
    ((0 : EReal) ≤ x (ix2 j 1024) ∧ (x (ix2 j 1024) : EReal) ≠ ⊤) ∧ ((0 : EReal) ≤ x (ix2 j 1025) ∧ (x (ix2 j 1025) : EReal) ≠ ⊤) := by
  have h0 := congrFun h ix0
  unfold Cert.Pre_route_ok.fn at h0
  dsimp only at h0
  haveI : Subsingleton Cert.Pre_route_ok.S_.Idx := ⟨fun p q => funext fun k => k.elim0⟩
  have h1 := IntOp.andi_eq_one.1 h0
  exact ⟨weight_of x j 0 (Host.reduce_andi_all _ _ _ _ _ h1.1 _) (Host.reduce_andi_all _ _ _ _ _ h1.2 _),
    weight_of x j 1 (Host.reduce_andi_all _ _ _ _ _ h1.1 _) (Host.reduce_andi_all _ _ _ _ _ h1.2 _)⟩

end Cert.Moe

end
-- ==== Proof.MoeClaim.lean ====
/-
  The routed experts' claims: their frames, and their value against the reference.
-/
module

public import proofs.«01_k».proof.Defs
public import proofs.«01_k».proof.Proof.Gen.Kernel2
public import proofs.«01_k».proof.Proof.MoeFrame
public import proofs.«01_k».proof.Proof.BitsMoeFrame
public import proofs.«01_k».proof.Proof.BitsMoeOk
public import proofs.«01_k».proof.Proof.MoeEq
public import Idealize.ShloMosaic.Lib.Quiescent

@[expose] public section

set_option maxRecDepth 16384

noncomputable section

namespace Cert.Moe

open Idealize.ShloMosaic Idealize.ShloMosaic.TcCoe Idealize.SL.Sem

/-- The shape facts the precondition's function states. -/
theorem preFacts : Cert.Pre_route_ok.Facts := ⟨by decide, by decide, by decide, by decide⟩

/-- The kernel's frame. -/
theorem frame_p : Cert.quiescent_Kernel2 (hKernel2 := Cert.Kernel2.Gen.facts) := fun m ρ _ => Cert.MoeBits.frame_run (F := Bits) m ρ (Cert.MoeBits.ok m) (Cert.MoeBits.bit m)
/-- The idealized kernel's frame. -/
theorem frame_pi : Cert.quiescent_Kernel2Ideal (hKernel2Ideal := Cert.Kernel2Ideal.Gen.facts) := fun m ρ _ => frame_run m ρ (ok m) (bit m)
/-- The idealized kernel's frame, under the precondition. -/
theorem frame_pi_pre : Cert.quiescent_Kernel2Ideal_pre_route_ok (hKernel2Ideal := Cert.Kernel2Ideal.Gen.facts) (hPre_route_ok := preFacts) :=
  fun m ρ _ => frame_run m ρ (ok m) (bit m)
/-- The reference's frame, from its run. -/
theorem frame_ri : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Moe.run_ref m ρ)
/-- The reference's frame, under the precondition. -/
theorem frame_ri_pre : Cert.quiescent_Reference2Ideal_pre_route_ok (hReference2Ideal := Cert.Reference2Ideal.Gen.facts) (hPre_route_ok := preFacts) :=
  fun m ρ _ => frame_ri m ρ trivial

/-- No constant is named: the idealized kernel is the kernel. -/
theorem preserves : Cert.preserves_Kernel2_Kernel2Ideal := trivial

section
open Cert.Kernel2Ideal Cert.Kernel2Ideal.Gen

/-- The run leaves the array the steps build, and its arguments as they were. -/
theorem run_arr (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = (dats m (ok m) 0 c).arrAt 7 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 7,
      ((h.1 c).2 main_arg0 (Pipeline.mem_restRefs_of (win := spec0) _ (by decide) (by decide))).trans (V_main_arg0 m c),
      ((h.1 c).1 0).trans (((dats m (ok m) 0 c).arrAt_in 0 rfl _).trans ((A_eq m (ok m) c 0).trans (V_main_arg1 m c))),
      ((h.1 c).2 main_arg2 (Pipeline.mem_restRefs_of (win := spec0) _ (by decide) (by decide))).trans (V_main_arg2 m c),
      ((h.1 c).2 main_arg3 (Pipeline.mem_restRefs_of (win := spec0) _ (by decide) (by decide))).trans (V_main_arg3 m c),
      ((h.1 c).2 main_arg4 (Pipeline.mem_restRefs_of (win := spec0) _ (by decide) (by decide))).trans (V_main_arg4 m c)⟩)
    (run_main_quiescent m ρ (ok m) (bit m))

/-- The array the steps build is the reference's result. -/
theorem arr_eq (m : (ℓ : Loc nD τ sig) → Buf (Elt Ideal) ℓ) (c : Dev nD)
    (hp : haveI := preFacts; Cert.Pre_route_ok.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    (dats m (ok m) 0 c).arrAt 7 (cfgM m (ok m)).N
      = Cert.Reference2Ideal.Moe.REF (use1 (m ((c.tc : Thread nD τ).loc main_arg0))) (cls (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) := by
  haveI := preFacts
  obtain rfl : c = 0 := Subsingleton.elim _ _
  rw [final m, V_main_arg1, V_main_v49, V_main_v50, V_main_v51]
  exact (REF_eq m _ _ _ _ (weights _ _ _ _ _ hp)).symm
end

/-- THE VALUE: from routing weights that are finite and not negative, the kernel and the reference leave the same array. -/
theorem algebraic : Cert.algebraic_Kernel2Ideal_Reference2Ideal_pre_route_ok (hKernel2Ideal := Cert.Kernel2Ideal.Gen.facts)
    (hReference2Ideal := Cert.Reference2Ideal.Gen.facts) (hPre_route_ok := preFacts) := by
  intro m ρ m' ρ' hpre hagree
  refine ⟨_, run_arr m ρ, ?_⟩
  refine (θ_run Cert.Reference2Ideal.defs _ _).mono (fun _ h c => ⟨(h c).1.trans ?_, (h c).2⟩) (Cert.Reference2Ideal.Moe.run_ref m' ρ')
  obtain ⟨h0, h1, h2, h3, h4⟩ := hagree c
  rw [h0, h1, h2, h3, h4]
  exact (arr_eq m c (hpre c)).symm

end Cert.Moe

end
-- ==== Proof.lean ====
/-
  The certificate: the attention call's, the input projection's and the routed experts' claims, behind the shape facts its programs state.
-/
module

public import proofs.«01_k».proof.Defs
public import proofs.«01_k».proof.Proof.AttClaim
public import proofs.«01_k».proof.Proof.ProjClaim
public import proofs.«01_k».proof.Proof.MoeClaim

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Kernel3.Gen.facts, Cert.Kernel3Ideal.Gen.facts, Cert.Reference3Ideal.Gen.facts,
    Cert.Kernel2.Gen.facts, Cert.Kernel2Ideal.Gen.facts, Cert.Reference2Ideal.Gen.facts, Cert.Att.preFacts, Cert.Moe.preFacts,
    Cert.Att.frame_p, Cert.Att.frame_pi, Cert.Att.frame_pi_pre, Cert.Att.frame_ri, Cert.Att.frame_ri_pre,
    Cert.Proj.frame_p, Cert.Proj.frame_pi, Cert.Proj.frame_ri,
    Cert.Moe.frame_p, Cert.Moe.frame_pi, Cert.Moe.frame_pi_pre, Cert.Moe.frame_ri, Cert.Moe.frame_ri_pre,
    Cert.Att.preserves, Cert.Att.algebraic, Cert.Proj.preserves, Cert.Proj.algebraic, Cert.Moe.preserves, Cert.Moe.algebraic⟩

end Cert.Proof

end
